-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![4, 8192, 2048]⟩ (Layout.meshBlock [2, 4, 4] ![[2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x2048 : Shape := ⟨2, ![8192, 2048]⟩
abbrev S2048 : Shape := ⟨1, ![2048]⟩
abbrev S2x2x256x2048 : Shape := ⟨4, ![2, 2, 256, 2048]⟩
abbrev S2x3x256x2048 : Shape := ⟨4, ![2, 3, 256, 2048]⟩
abbrev S2x4x256x2048 : Shape := ⟨4, ![2, 4, 256, 2048]⟩
abbrev S2x256x2048 : Shape := ⟨3, ![2, 256, 2048]⟩
abbrev S2x3 : Shape := ⟨2, ![2, 3]⟩
abbrev S2x2 : Shape := ⟨2, ![2, 2]⟩
abbrev S2 : Shape := ⟨1, ![2]⟩
abbrev S_ : Shape := ⟨0, ![]⟩
abbrev S1x1 : Shape := ⟨2, ![1, 1]⟩
abbrev S1x1x256x2048 : Shape := ⟨4, ![1, 1, 256, 2048]⟩
abbrev S256x2048 : Shape := ⟨2, ![256, 2048]⟩
abbrev S1x256x2048 : Shape := ⟨3, ![1, 256, 2048]⟩
abbrev S1 : Shape := ⟨1, ![1]⟩
abbrev S256 : Shape := ⟨1, ![256]⟩
abbrev S256x1 : Shape := ⟨2, ![256, 1]⟩
abbrev S1x2048 : Shape := ⟨2, ![1, 2048]⟩

abbrev nBuf : Space → Nat
  | .hbm => 4
  | .vmem => 7
  | .smem => 0
  | _ => 0

abbrev bufTy : (tb : Table) → Fin (tcTables nBuf tb) → BufTy
  | .hbm, ⟨0, _⟩ => ⟨S1x8192x2048, .f32⟩
  | .hbm, ⟨1, _⟩ => ⟨S8192x2048, .f32⟩
  | .hbm, ⟨2, _⟩ => ⟨S2048, .f32⟩
  | .hbm, ⟨3, _⟩ => ⟨S8192x2048, .f32⟩
  | .local _ .vmem, ⟨0, _⟩ => ⟨S2048, .f32⟩
  | .local _ .vmem, ⟨1, _⟩ => ⟨S2x2x256x2048, .bf16⟩
  | .local _ .vmem, ⟨2, _⟩ => ⟨S2x3x256x2048, .bf16⟩
  | .local _ .vmem, ⟨3, _⟩ => ⟨S2x4x256x2048, .bf16⟩
  | .local _ .vmem, ⟨4, _⟩ => ⟨S2x2x256x2048, .f32⟩
  | .local _ .vmem, ⟨5, _⟩ => ⟨S2x256x2048, .f32⟩
  | .local _ .vmem, ⟨6, _⟩ => ⟨S2x2x256x2048, .f32⟩
  | _, _ => ⟨S1x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_18 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_17 : BitVec 32 := 16#32
  let v33 : BitVec 32 := Scalar.muli v2 c16_i32_17
  let v34 : BitVec 32 := Scalar.addi c0_i32_18 v33
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_19 : BitVec 32 := 4#32
  let v35 : BitVec 32 := Scalar.muli v5 c4_i32_19
  let v36 : BitVec 32 := Scalar.addi v34 v35
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_20 : BitVec 32 := 1#32
  let v37 : BitVec 32 := Scalar.muli v19 c1_i32_20
  let v38 : BitVec 32 := Scalar.addi v36 v37
  v38.toNat
def k0_dev2 (d0 : Dev nD) : Nat :=
  let c0_i32_23 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_22 : BitVec 32 := 16#32
  let v39 : BitVec 32 := Scalar.muli v2 c16_i32_22
  let v40 : BitVec 32 := Scalar.addi c0_i32_23 v39
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_24 : BitVec 32 := 4#32
  let v41 : BitVec 32 := Scalar.muli v5 c4_i32_24
  let v42 : BitVec 32 := Scalar.addi v40 v41
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_25 : BitVec 32 := 1#32
  let v43 : BitVec 32 := Scalar.muli v31 c1_i32_25
  let v44 : BitVec 32 := Scalar.addi v42 v43
  v44.toNat
def k0_off1 (d0 : Dev nD) (c0_i32_34 : BitVec 32) : Fin 3 → Nat :=
  let c0_i32_35 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c0_i32_27 : BitVec 32 := 0#32
  let v45 : BitVec 32 := Scalar.addi v8 c0_i32_27
  let c4_i32_28 : BitVec 32 := 4#32
  let c0_i32_29 : BitVec 32 := 0#32
  let v46 : BitVec 1 := Scalar.cmpi .eq c4_i32_28 c0_i32_29
  let c1_i32_30 : BitVec 32 := 1#32
  let v47 : BitVec 32 := Scalar.select v46 c1_i32_30 c4_i32_28
  let v48 : BitVec 32 := Scalar.remsi v45 v47
  let c0_i32_32 : BitVec 32 := 0#32
  let v50 : BitVec 1 := Scalar.cmpi .slt v48 c0_i32_32
  let c0_i32_33 : BitVec 32 := 0#32
  let v51 : BitVec 1 := Scalar.cmpi .slt v47 c0_i32_33
  let v52 : BitVec 1 := Scalar.xori v50 v51
  let c0_i32_31 : BitVec 32 := 0#32
  let v49 : BitVec 1 := Scalar.cmpi .ne v48 c0_i32_31
  let v53 : BitVec 1 := Scalar.andi v52 v49
  let v54 : BitVec 32 := Scalar.addi v48 v47
  let v55 : BitVec 32 := Scalar.select v53 v54 v48
  let c256_i32 : BitVec 32 := 256#32
  let v56 : BitVec 32 := Scalar.muli v55 c256_i32
  let v57 : BitVec 32 := Scalar.addi c0_i32_34 v56
  let c0_i32_42 : BitVec 32 := 0#32
  ![0, v57.toNat, 0]
def k0_off2 (d0 : Dev nD) (c0_i32_51 : BitVec 32) (c1_i32_43 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v64 : BitVec 32 := Scalar.addi v8 c1_i32_43
  let c4_i32_44 : BitVec 32 := 4#32
  let c0_i32_45 : BitVec 32 := 0#32
  let v65 : BitVec 1 := Scalar.cmpi .eq c4_i32_44 c0_i32_45
  let c1_i32_46 : BitVec 32 := 1#32
  let v66 : BitVec 32 := Scalar.select v65 c1_i32_46 c4_i32_44
  let v67 : BitVec 32 := Scalar.remsi v64 v66
  let c0_i32_48 : BitVec 32 := 0#32
  let v69 : BitVec 1 := Scalar.cmpi .slt v67 c0_i32_48
  let c0_i32_49 : BitVec 32 := 0#32
  let v70 : BitVec 1 := Scalar.cmpi .slt v66 c0_i32_49
  let v71 : BitVec 1 := Scalar.xori v69 v70
  let c0_i32_47 : BitVec 32 := 0#32
  let v68 : BitVec 1 := Scalar.cmpi .ne v67 c0_i32_47
  let v72 : BitVec 1 := Scalar.andi v71 v68
  let v73 : BitVec 32 := Scalar.addi v67 v66
  let v74 : BitVec 32 := Scalar.select v72 v73 v67
  let c256_i32_50 : BitVec 32 := 256#32
  let v75 : BitVec 32 := Scalar.muli v74 c256_i32_50
  let v76 : BitVec 32 := Scalar.addi c0_i32_51 v75
  let c0_i32_56 : BitVec 32 := 0#32
  ![v76.toNat, 0]
def k0_off2_at (r : Fin 28) : BitVec 32 × BitVec 32 :=
  if r.val < 14 then
    if r.val < 7 then
      if r.val < 3 then
        if r.val < 1 then
          (0#32, 1#32)
        else
          if r.val < 2 then
            (0#32, 0#32)
          else
            (4096#32, 0#32)
      else
        if r.val < 5 then
          if r.val < 4 then
            (0#32, 3#32)
          else
            (4096#32, 1#32)
        else
          if r.val < 6 then
            (0#32, 2#32)
          else
            (4096#32, 2#32)
    else
      if r.val < 10 then
        if r.val < 8 then
          (1024#32, 1#32)
        else
          if r.val < 9 then
            (1024#32, 0#32)
          else
            (5120#32, 0#32)
      else
        if r.val < 12 then
          if r.val < 11 then
            (1024#32, 3#32)
          else
            (5120#32, 1#32)
        else
          if r.val < 13 then
            (1024#32, 2#32)
          else
            (5120#32, 2#32)
  else
    if r.val < 21 then
      if r.val < 17 then
        if r.val < 15 then
          (2048#32, 1#32)
        else
          if r.val < 16 then
            (2048#32, 0#32)
          else
            (6144#32, 0#32)
      else
        if r.val < 19 then
          if r.val < 18 then
            (2048#32, 3#32)
          else
            (6144#32, 1#32)
        else
          if r.val < 20 then
            (2048#32, 2#32)
          else
            (6144#32, 2#32)
    else
      if r.val < 24 then
        if r.val < 22 then
          (3072#32, 1#32)
        else
          if r.val < 23 then
            (3072#32, 0#32)
          else
            (7168#32, 0#32)
      else
        if r.val < 26 then
          if r.val < 25 then
            (3072#32, 3#32)
          else
            (7168#32, 1#32)
        else
          if r.val < 27 then
            (3072#32, 2#32)
          else
            (7168#32, 2#32)
def k0_off3 (d0 : Dev nD) (c4096_i32_82 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_73 : BitVec 32 := 4#32
  let v101 : BitVec 32 := Scalar.addi v8 c4_i32_73
  let c1_i32_74 : BitVec 32 := 1#32
  let v102 : BitVec 32 := Scalar.subi v101 c1_i32_74
  let c4_i32_75 : BitVec 32 := 4#32
  let c0_i32_76 : BitVec 32 := 0#32
  let v103 : BitVec 1 := Scalar.cmpi .eq c4_i32_75 c0_i32_76
  let c1_i32_77 : BitVec 32 := 1#32
  let v104 : BitVec 32 := Scalar.select v103 c1_i32_77 c4_i32_75
  let v105 : BitVec 32 := Scalar.remsi v102 v104
  let c0_i32_79 : BitVec 32 := 0#32
  let v107 : BitVec 1 := Scalar.cmpi .slt v105 c0_i32_79
  let c0_i32_80 : BitVec 32 := 0#32
  let v108 : BitVec 1 := Scalar.cmpi .slt v104 c0_i32_80
  let v109 : BitVec 1 := Scalar.xori v107 v108
  let c0_i32_78 : BitVec 32 := 0#32
  let v106 : BitVec 1 := Scalar.cmpi .ne v105 c0_i32_78
  let v110 : BitVec 1 := Scalar.andi v109 v106
  let v111 : BitVec 32 := Scalar.addi v105 v104
  let v112 : BitVec 32 := Scalar.select v110 v111 v105
  let c256_i32_81 : BitVec 32 := 256#32
  let v113 : BitVec 32 := Scalar.muli v112 c256_i32_81
  let v114 : BitVec 32 := Scalar.addi c4096_i32_82 v113
  let c0_i32_87 : BitVec 32 := 0#32
  ![v114.toNat, 0]
def k0_off4 (d0 : Dev nD) (c0_i32_113 : BitVec 32) (c0_i32_104 : BitVec 32) : Fin 3 → Nat :=
  let c0_i32_114 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_103 : BitVec 32 := 4#32
  let v132 : BitVec 32 := Scalar.addi v8 c4_i32_103
  let v133 : BitVec 32 := Scalar.subi v132 c0_i32_104
  let c1_i32_105 : BitVec 32 := 1#32
  let v134 : BitVec 32 := Scalar.subi v133 c1_i32_105
  let c4_i32_106 : BitVec 32 := 4#32
  let c0_i32_107 : BitVec 32 := 0#32
  let v135 : BitVec 1 := Scalar.cmpi .eq c4_i32_106 c0_i32_107
  let c1_i32_108 : BitVec 32 := 1#32
  let v136 : BitVec 32 := Scalar.select v135 c1_i32_108 c4_i32_106
  let v137 : BitVec 32 := Scalar.remsi v134 v136
  let c0_i32_110 : BitVec 32 := 0#32
  let v139 : BitVec 1 := Scalar.cmpi .slt v137 c0_i32_110
  let c0_i32_111 : BitVec 32 := 0#32
  let v140 : BitVec 1 := Scalar.cmpi .slt v136 c0_i32_111
  let v141 : BitVec 1 := Scalar.xori v139 v140
  let c0_i32_109 : BitVec 32 := 0#32
  let v138 : BitVec 1 := Scalar.cmpi .ne v137 c0_i32_109
  let v142 : BitVec 1 := Scalar.andi v141 v138
  let v143 : BitVec 32 := Scalar.addi v137 v136
  let v144 : BitVec 32 := Scalar.select v142 v143 v137
  let c256_i32_112 : BitVec 32 := 256#32
  let v145 : BitVec 32 := Scalar.muli v144 c256_i32_112
  let v146 : BitVec 32 := Scalar.addi c0_i32_113 v145
  let c0_i32_121 : BitVec 32 := 0#32
  ![0, v146.toNat, 0]
def k0_off5 (d0 : Dev nD) (c4096_i32_146 : BitVec 32) (c0_i32_137 : BitVec 32) : Fin 3 → Nat :=
  let c0_i32_147 : BitVec 32 := 0#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v165 : BitVec 32 := Scalar.addi v8 c0_i32_137
  let c1_i32_138 : BitVec 32 := 1#32
  let v166 : BitVec 32 := Scalar.addi v165 c1_i32_138
  let c4_i32_139 : BitVec 32 := 4#32
  let c0_i32_140 : BitVec 32 := 0#32
  let v167 : BitVec 1 := Scalar.cmpi .eq c4_i32_139 c0_i32_140
  let c1_i32_141 : BitVec 32 := 1#32
  let v168 : BitVec 32 := Scalar.select v167 c1_i32_141 c4_i32_139
  let v169 : BitVec 32 := Scalar.remsi v166 v168
  let c0_i32_143 : BitVec 32 := 0#32
  let v171 : BitVec 1 := Scalar.cmpi .slt v169 c0_i32_143
  let c0_i32_144 : BitVec 32 := 0#32
  let v172 : BitVec 1 := Scalar.cmpi .slt v168 c0_i32_144
  let v173 : BitVec 1 := Scalar.xori v171 v172
  let c0_i32_142 : BitVec 32 := 0#32
  let v170 : BitVec 1 := Scalar.cmpi .ne v169 c0_i32_142
  let v174 : BitVec 1 := Scalar.andi v173 v170
  let v175 : BitVec 32 := Scalar.addi v169 v168
  let v176 : BitVec 32 := Scalar.select v174 v175 v169
  let c256_i32_145 : BitVec 32 := 256#32
  let v177 : BitVec 32 := Scalar.muli v176 c256_i32_145
  let v178 : BitVec 32 := Scalar.addi c4096_i32_146 v177
  let c0_i32_154 : BitVec 32 := 0#32
  ![0, v178.toNat, 0]
def k0_dev3 (d0 : Dev nD) : Nat :=
  let c0_i32_164 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_163 : BitVec 32 := 16#32
  let v185 : BitVec 32 := Scalar.muli v2 c16_i32_163
  let v186 : BitVec 32 := Scalar.addi c0_i32_164 v185
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_165 : BitVec 32 := 4#32
  let v187 : BitVec 32 := Scalar.muli v5 c4_i32_165
  let v188 : BitVec 32 := Scalar.addi v186 v187
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_166 : BitVec 32 := 1#32
  let v189 : BitVec 32 := Scalar.muli v19 c1_i32_166
  let v190 : BitVec 32 := Scalar.addi v188 v189
  v190.toNat
def k0_dev4 (d0 : Dev nD) : Nat :=
  let c0_i32_180 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_179 : BitVec 32 := 16#32
  let v199 : BitVec 32 := Scalar.muli v2 c16_i32_179
  let v200 : BitVec 32 := Scalar.addi c0_i32_180 v199
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_181 : BitVec 32 := 4#32
  let v201 : BitVec 32 := Scalar.muli v5 c4_i32_181
  let v202 : BitVec 32 := Scalar.addi v200 v201
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_182 : BitVec 32 := 1#32
  let v203 : BitVec 32 := Scalar.muli v31 c1_i32_182
  let v204 : BitVec 32 := Scalar.addi v202 v203
  v204.toNat
def k0_dev5 (d0 : Dev nD) : Nat :=
  let c0_i32_331 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_330 : BitVec 32 := 16#32
  let v322 : BitVec 32 := Scalar.muli v2 c16_i32_330
  let v323 : BitVec 32 := Scalar.addi c0_i32_331 v322
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_332 : BitVec 32 := 4#32
  let v324 : BitVec 32 := Scalar.muli v5 c4_i32_332
  let v325 : BitVec 32 := Scalar.addi v323 v324
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_333 : BitVec 32 := 1#32
  let v326 : BitVec 32 := Scalar.muli v19 c1_i32_333
  let v327 : BitVec 32 := Scalar.addi v325 v326
  v327.toNat
def k0_dev6 (d0 : Dev nD) : Nat :=
  let c0_i32_347 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_346 : BitVec 32 := 16#32
  let v336 : BitVec 32 := Scalar.muli v2 c16_i32_346
  let v337 : BitVec 32 := Scalar.addi c0_i32_347 v336
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_348 : BitVec 32 := 4#32
  let v338 : BitVec 32 := Scalar.muli v5 c4_i32_348
  let v339 : BitVec 32 := Scalar.addi v337 v338
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_349 : BitVec 32 := 1#32
  let v340 : BitVec 32 := Scalar.muli v31 c1_i32_349
  let v341 : BitVec 32 := Scalar.addi v339 v340
  v341.toNat
def k0_dev7 (d0 : Dev nD) : Nat :=
  let c0_i32_498 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_497 : BitVec 32 := 16#32
  let v459 : BitVec 32 := Scalar.muli v2 c16_i32_497
  let v460 : BitVec 32 := Scalar.addi c0_i32_498 v459
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_499 : BitVec 32 := 4#32
  let v461 : BitVec 32 := Scalar.muli v5 c4_i32_499
  let v462 : BitVec 32 := Scalar.addi v460 v461
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_500 : BitVec 32 := 1#32
  let v463 : BitVec 32 := Scalar.muli v19 c1_i32_500
  let v464 : BitVec 32 := Scalar.addi v462 v463
  v464.toNat
def k0_dev8 (d0 : Dev nD) : Nat :=
  let c0_i32_514 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_513 : BitVec 32 := 16#32
  let v473 : BitVec 32 := Scalar.muli v2 c16_i32_513
  let v474 : BitVec 32 := Scalar.addi c0_i32_514 v473
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_515 : BitVec 32 := 4#32
  let v475 : BitVec 32 := Scalar.muli v5 c4_i32_515
  let v476 : BitVec 32 := Scalar.addi v474 v475
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_516 : BitVec 32 := 1#32
  let v477 : BitVec 32 := Scalar.muli v31 c1_i32_516
  let v478 : BitVec 32 := Scalar.addi v476 v477
  v478.toNat
def k0_dev9 (d0 : Dev nD) : Nat :=
  let c0_i32_691 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_690 : BitVec 32 := 16#32
  let v644 : BitVec 32 := Scalar.muli v2 c16_i32_690
  let v645 : BitVec 32 := Scalar.addi c0_i32_691 v644
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_692 : BitVec 32 := 4#32
  let v646 : BitVec 32 := Scalar.muli v5 c4_i32_692
  let v647 : BitVec 32 := Scalar.addi v645 v646
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_693 : BitVec 32 := 1#32
  let v648 : BitVec 32 := Scalar.muli v19 c1_i32_693
  let v649 : BitVec 32 := Scalar.addi v647 v648
  v649.toNat
def k0_dev10 (d0 : Dev nD) : Nat :=
  let c0_i32_707 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_706 : BitVec 32 := 16#32
  let v658 : BitVec 32 := Scalar.muli v2 c16_i32_706
  let v659 : BitVec 32 := Scalar.addi c0_i32_707 v658
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_708 : BitVec 32 := 4#32
  let v660 : BitVec 32 := Scalar.muli v5 c4_i32_708
  let v661 : BitVec 32 := Scalar.addi v659 v660
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_709 : BitVec 32 := 1#32
  let v662 : BitVec 32 := Scalar.muli v31 c1_i32_709
  let v663 : BitVec 32 := Scalar.addi v661 v662
  v663.toNat
def k0_dev11 (d0 : Dev nD) : Nat :=
  let c0_i32_829 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_828 : BitVec 32 := 16#32
  let v756 : BitVec 32 := Scalar.muli v2 c16_i32_828
  let v757 : BitVec 32 := Scalar.addi c0_i32_829 v756
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_830 : BitVec 32 := 4#32
  let v758 : BitVec 32 := Scalar.muli v5 c4_i32_830
  let v759 : BitVec 32 := Scalar.addi v757 v758
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_831 : BitVec 32 := 1#32
  let v760 : BitVec 32 := Scalar.muli v19 c1_i32_831
  let v761 : BitVec 32 := Scalar.addi v759 v760
  v761.toNat
def k0_dev12 (d0 : Dev nD) : Nat :=
  let c0_i32_845 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_844 : BitVec 32 := 16#32
  let v770 : BitVec 32 := Scalar.muli v2 c16_i32_844
  let v771 : BitVec 32 := Scalar.addi c0_i32_845 v770
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_846 : BitVec 32 := 4#32
  let v772 : BitVec 32 := Scalar.muli v5 c4_i32_846
  let v773 : BitVec 32 := Scalar.addi v771 v772
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_847 : BitVec 32 := 1#32
  let v774 : BitVec 32 := Scalar.muli v31 c1_i32_847
  let v775 : BitVec 32 := Scalar.addi v773 v774
  v775.toNat
def k0_dev13 (d0 : Dev nD) : Nat :=
  let c0_i32_980 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_979 : BitVec 32 := 16#32
  let v878 : BitVec 32 := Scalar.muli v2 c16_i32_979
  let v879 : BitVec 32 := Scalar.addi c0_i32_980 v878
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_981 : BitVec 32 := 4#32
  let v880 : BitVec 32 := Scalar.muli v5 c4_i32_981
  let v881 : BitVec 32 := Scalar.addi v879 v880
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_982 : BitVec 32 := 1#32
  let v882 : BitVec 32 := Scalar.muli v19 c1_i32_982
  let v883 : BitVec 32 := Scalar.addi v881 v882
  v883.toNat
def k0_dev14 (d0 : Dev nD) : Nat :=
  let c0_i32_996 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_995 : BitVec 32 := 16#32
  let v892 : BitVec 32 := Scalar.muli v2 c16_i32_995
  let v893 : BitVec 32 := Scalar.addi c0_i32_996 v892
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_997 : BitVec 32 := 4#32
  let v894 : BitVec 32 := Scalar.muli v5 c4_i32_997
  let v895 : BitVec 32 := Scalar.addi v893 v894
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_998 : BitVec 32 := 1#32
  let v896 : BitVec 32 := Scalar.muli v31 c1_i32_998
  let v897 : BitVec 32 := Scalar.addi v895 v896
  v897.toNat
def k0_dev15 (d0 : Dev nD) : Nat :=
  let c0_i32_1261 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1260 : BitVec 32 := 16#32
  let v1140 : BitVec 32 := Scalar.muli v2 c16_i32_1260
  let v1141 : BitVec 32 := Scalar.addi c0_i32_1261 v1140
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1262 : BitVec 32 := 4#32
  let v1142 : BitVec 32 := Scalar.muli v5 c4_i32_1262
  let v1143 : BitVec 32 := Scalar.addi v1141 v1142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1263 : BitVec 32 := 1#32
  let v1144 : BitVec 32 := Scalar.muli v19 c1_i32_1263
  let v1145 : BitVec 32 := Scalar.addi v1143 v1144
  v1145.toNat
def k0_dev16 (d0 : Dev nD) : Nat :=
  let c0_i32_1277 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1276 : BitVec 32 := 16#32
  let v1154 : BitVec 32 := Scalar.muli v2 c16_i32_1276
  let v1155 : BitVec 32 := Scalar.addi c0_i32_1277 v1154
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1278 : BitVec 32 := 4#32
  let v1156 : BitVec 32 := Scalar.muli v5 c4_i32_1278
  let v1157 : BitVec 32 := Scalar.addi v1155 v1156
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_1279 : BitVec 32 := 1#32
  let v1158 : BitVec 32 := Scalar.muli v31 c1_i32_1279
  let v1159 : BitVec 32 := Scalar.addi v1157 v1158
  v1159.toNat
def k0_dev17 (d0 : Dev nD) : Nat :=
  let c0_i32_1428 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1427 : BitVec 32 := 16#32
  let v1277 : BitVec 32 := Scalar.muli v2 c16_i32_1427
  let v1278 : BitVec 32 := Scalar.addi c0_i32_1428 v1277
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1429 : BitVec 32 := 4#32
  let v1279 : BitVec 32 := Scalar.muli v5 c4_i32_1429
  let v1280 : BitVec 32 := Scalar.addi v1278 v1279
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1430 : BitVec 32 := 1#32
  let v1281 : BitVec 32 := Scalar.muli v19 c1_i32_1430
  let v1282 : BitVec 32 := Scalar.addi v1280 v1281
  v1282.toNat
def k0_dev18 (d0 : Dev nD) : Nat :=
  let c0_i32_1444 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1443 : BitVec 32 := 16#32
  let v1291 : BitVec 32 := Scalar.muli v2 c16_i32_1443
  let v1292 : BitVec 32 := Scalar.addi c0_i32_1444 v1291
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1445 : BitVec 32 := 4#32
  let v1293 : BitVec 32 := Scalar.muli v5 c4_i32_1445
  let v1294 : BitVec 32 := Scalar.addi v1292 v1293
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_1446 : BitVec 32 := 1#32
  let v1295 : BitVec 32 := Scalar.muli v31 c1_i32_1446
  let v1296 : BitVec 32 := Scalar.addi v1294 v1295
  v1296.toNat
def k0_dev19 (d0 : Dev nD) : Nat :=
  let c0_i32_1595 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1594 : BitVec 32 := 16#32
  let v1414 : BitVec 32 := Scalar.muli v2 c16_i32_1594
  let v1415 : BitVec 32 := Scalar.addi c0_i32_1595 v1414
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1596 : BitVec 32 := 4#32
  let v1416 : BitVec 32 := Scalar.muli v5 c4_i32_1596
  let v1417 : BitVec 32 := Scalar.addi v1415 v1416
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1597 : BitVec 32 := 1#32
  let v1418 : BitVec 32 := Scalar.muli v19 c1_i32_1597
  let v1419 : BitVec 32 := Scalar.addi v1417 v1418
  v1419.toNat
def k0_dev20 (d0 : Dev nD) : Nat :=
  let c0_i32_1611 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1610 : BitVec 32 := 16#32
  let v1428 : BitVec 32 := Scalar.muli v2 c16_i32_1610
  let v1429 : BitVec 32 := Scalar.addi c0_i32_1611 v1428
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1612 : BitVec 32 := 4#32
  let v1430 : BitVec 32 := Scalar.muli v5 c4_i32_1612
  let v1431 : BitVec 32 := Scalar.addi v1429 v1430
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_1613 : BitVec 32 := 1#32
  let v1432 : BitVec 32 := Scalar.muli v31 c1_i32_1613
  let v1433 : BitVec 32 := Scalar.addi v1431 v1432
  v1433.toNat
def k0_dev21 (d0 : Dev nD) : Nat :=
  let c0_i32_1804 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1803 : BitVec 32 := 16#32
  let v1609 : BitVec 32 := Scalar.muli v2 c16_i32_1803
  let v1610 : BitVec 32 := Scalar.addi c0_i32_1804 v1609
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1805 : BitVec 32 := 4#32
  let v1611 : BitVec 32 := Scalar.muli v5 c4_i32_1805
  let v1612 : BitVec 32 := Scalar.addi v1610 v1611
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1806 : BitVec 32 := 1#32
  let v1613 : BitVec 32 := Scalar.muli v19 c1_i32_1806
  let v1614 : BitVec 32 := Scalar.addi v1612 v1613
  v1614.toNat
def k0_dev22 (d0 : Dev nD) : Nat :=
  let c0_i32_1820 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1819 : BitVec 32 := 16#32
  let v1623 : BitVec 32 := Scalar.muli v2 c16_i32_1819
  let v1624 : BitVec 32 := Scalar.addi c0_i32_1820 v1623
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1821 : BitVec 32 := 4#32
  let v1625 : BitVec 32 := Scalar.muli v5 c4_i32_1821
  let v1626 : BitVec 32 := Scalar.addi v1624 v1625
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_1822 : BitVec 32 := 1#32
  let v1627 : BitVec 32 := Scalar.muli v31 c1_i32_1822
  let v1628 : BitVec 32 := Scalar.addi v1626 v1627
  v1628.toNat
def k0_dev23 (d0 : Dev nD) : Nat :=
  let c0_i32_1956 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1955 : BitVec 32 := 16#32
  let v1731 : BitVec 32 := Scalar.muli v2 c16_i32_1955
  let v1732 : BitVec 32 := Scalar.addi c0_i32_1956 v1731
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1957 : BitVec 32 := 4#32
  let v1733 : BitVec 32 := Scalar.muli v5 c4_i32_1957
  let v1734 : BitVec 32 := Scalar.addi v1732 v1733
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_1958 : BitVec 32 := 1#32
  let v1735 : BitVec 32 := Scalar.muli v19 c1_i32_1958
  let v1736 : BitVec 32 := Scalar.addi v1734 v1735
  v1736.toNat
def k0_dev24 (d0 : Dev nD) : Nat :=
  let c0_i32_1972 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1971 : BitVec 32 := 16#32
  let v1745 : BitVec 32 := Scalar.muli v2 c16_i32_1971
  let v1746 : BitVec 32 := Scalar.addi c0_i32_1972 v1745
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1973 : BitVec 32 := 4#32
  let v1747 : BitVec 32 := Scalar.muli v5 c4_i32_1973
  let v1748 : BitVec 32 := Scalar.addi v1746 v1747
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_1974 : BitVec 32 := 1#32
  let v1749 : BitVec 32 := Scalar.muli v31 c1_i32_1974
  let v1750 : BitVec 32 := Scalar.addi v1748 v1749
  v1750.toNat
def k0_dev25 (d0 : Dev nD) : Nat :=
  let c0_i32_2108 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2107 : BitVec 32 := 16#32
  let v1853 : BitVec 32 := Scalar.muli v2 c16_i32_2107
  let v1854 : BitVec 32 := Scalar.addi c0_i32_2108 v1853
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2109 : BitVec 32 := 4#32
  let v1855 : BitVec 32 := Scalar.muli v5 c4_i32_2109
  let v1856 : BitVec 32 := Scalar.addi v1854 v1855
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_2110 : BitVec 32 := 1#32
  let v1857 : BitVec 32 := Scalar.muli v19 c1_i32_2110
  let v1858 : BitVec 32 := Scalar.addi v1856 v1857
  v1858.toNat
def k0_dev26 (d0 : Dev nD) : Nat :=
  let c0_i32_2124 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2123 : BitVec 32 := 16#32
  let v1867 : BitVec 32 := Scalar.muli v2 c16_i32_2123
  let v1868 : BitVec 32 := Scalar.addi c0_i32_2124 v1867
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2125 : BitVec 32 := 4#32
  let v1869 : BitVec 32 := Scalar.muli v5 c4_i32_2125
  let v1870 : BitVec 32 := Scalar.addi v1868 v1869
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_2126 : BitVec 32 := 1#32
  let v1871 : BitVec 32 := Scalar.muli v31 c1_i32_2126
  let v1872 : BitVec 32 := Scalar.addi v1870 v1871
  v1872.toNat
def k0_dev27 (d0 : Dev nD) : Nat :=
  let c0_i32_2390 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2389 : BitVec 32 := 16#32
  let v2115 : BitVec 32 := Scalar.muli v2 c16_i32_2389
  let v2116 : BitVec 32 := Scalar.addi c0_i32_2390 v2115
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2391 : BitVec 32 := 4#32
  let v2117 : BitVec 32 := Scalar.muli v5 c4_i32_2391
  let v2118 : BitVec 32 := Scalar.addi v2116 v2117
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_2392 : BitVec 32 := 1#32
  let v2119 : BitVec 32 := Scalar.muli v19 c1_i32_2392
  let v2120 : BitVec 32 := Scalar.addi v2118 v2119
  v2120.toNat
def k0_dev28 (d0 : Dev nD) : Nat :=
  let c0_i32_2406 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2405 : BitVec 32 := 16#32
  let v2129 : BitVec 32 := Scalar.muli v2 c16_i32_2405
  let v2130 : BitVec 32 := Scalar.addi c0_i32_2406 v2129
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2407 : BitVec 32 := 4#32
  let v2131 : BitVec 32 := Scalar.muli v5 c4_i32_2407
  let v2132 : BitVec 32 := Scalar.addi v2130 v2131
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_2408 : BitVec 32 := 1#32
  let v2133 : BitVec 32 := Scalar.muli v31 c1_i32_2408
  let v2134 : BitVec 32 := Scalar.addi v2132 v2133
  v2134.toNat
def k0_dev29 (d0 : Dev nD) : Nat :=
  let c0_i32_2557 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2556 : BitVec 32 := 16#32
  let v2252 : BitVec 32 := Scalar.muli v2 c16_i32_2556
  let v2253 : BitVec 32 := Scalar.addi c0_i32_2557 v2252
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2558 : BitVec 32 := 4#32
  let v2254 : BitVec 32 := Scalar.muli v5 c4_i32_2558
  let v2255 : BitVec 32 := Scalar.addi v2253 v2254
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_2559 : BitVec 32 := 1#32
  let v2256 : BitVec 32 := Scalar.muli v19 c1_i32_2559
  let v2257 : BitVec 32 := Scalar.addi v2255 v2256
  v2257.toNat
def k0_dev30 (d0 : Dev nD) : Nat :=
  let c0_i32_2573 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2572 : BitVec 32 := 16#32
  let v2266 : BitVec 32 := Scalar.muli v2 c16_i32_2572
  let v2267 : BitVec 32 := Scalar.addi c0_i32_2573 v2266
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2574 : BitVec 32 := 4#32
  let v2268 : BitVec 32 := Scalar.muli v5 c4_i32_2574
  let v2269 : BitVec 32 := Scalar.addi v2267 v2268
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_2575 : BitVec 32 := 1#32
  let v2270 : BitVec 32 := Scalar.muli v31 c1_i32_2575
  let v2271 : BitVec 32 := Scalar.addi v2269 v2270
  v2271.toNat
def k0_dev31 (d0 : Dev nD) : Nat :=
  let c0_i32_2724 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2723 : BitVec 32 := 16#32
  let v2389 : BitVec 32 := Scalar.muli v2 c16_i32_2723
  let v2390 : BitVec 32 := Scalar.addi c0_i32_2724 v2389
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2725 : BitVec 32 := 4#32
  let v2391 : BitVec 32 := Scalar.muli v5 c4_i32_2725
  let v2392 : BitVec 32 := Scalar.addi v2390 v2391
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_2726 : BitVec 32 := 1#32
  let v2393 : BitVec 32 := Scalar.muli v19 c1_i32_2726
  let v2394 : BitVec 32 := Scalar.addi v2392 v2393
  v2394.toNat
def k0_dev32 (d0 : Dev nD) : Nat :=
  let c0_i32_2740 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2739 : BitVec 32 := 16#32
  let v2403 : BitVec 32 := Scalar.muli v2 c16_i32_2739
  let v2404 : BitVec 32 := Scalar.addi c0_i32_2740 v2403
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2741 : BitVec 32 := 4#32
  let v2405 : BitVec 32 := Scalar.muli v5 c4_i32_2741
  let v2406 : BitVec 32 := Scalar.addi v2404 v2405
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_2742 : BitVec 32 := 1#32
  let v2407 : BitVec 32 := Scalar.muli v31 c1_i32_2742
  let v2408 : BitVec 32 := Scalar.addi v2406 v2407
  v2408.toNat
def k0_dev33 (d0 : Dev nD) : Nat :=
  let c0_i32_2933 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2932 : BitVec 32 := 16#32
  let v2584 : BitVec 32 := Scalar.muli v2 c16_i32_2932
  let v2585 : BitVec 32 := Scalar.addi c0_i32_2933 v2584
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2934 : BitVec 32 := 4#32
  let v2586 : BitVec 32 := Scalar.muli v5 c4_i32_2934
  let v2587 : BitVec 32 := Scalar.addi v2585 v2586
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_2935 : BitVec 32 := 1#32
  let v2588 : BitVec 32 := Scalar.muli v19 c1_i32_2935
  let v2589 : BitVec 32 := Scalar.addi v2587 v2588
  v2589.toNat
def k0_dev34 (d0 : Dev nD) : Nat :=
  let c0_i32_2949 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2948 : BitVec 32 := 16#32
  let v2598 : BitVec 32 := Scalar.muli v2 c16_i32_2948
  let v2599 : BitVec 32 := Scalar.addi c0_i32_2949 v2598
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2950 : BitVec 32 := 4#32
  let v2600 : BitVec 32 := Scalar.muli v5 c4_i32_2950
  let v2601 : BitVec 32 := Scalar.addi v2599 v2600
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_2951 : BitVec 32 := 1#32
  let v2602 : BitVec 32 := Scalar.muli v31 c1_i32_2951
  let v2603 : BitVec 32 := Scalar.addi v2601 v2602
  v2603.toNat
def k0_dev35 (d0 : Dev nD) : Nat :=
  let c0_i32_3085 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3084 : BitVec 32 := 16#32
  let v2706 : BitVec 32 := Scalar.muli v2 c16_i32_3084
  let v2707 : BitVec 32 := Scalar.addi c0_i32_3085 v2706
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3086 : BitVec 32 := 4#32
  let v2708 : BitVec 32 := Scalar.muli v5 c4_i32_3086
  let v2709 : BitVec 32 := Scalar.addi v2707 v2708
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_3087 : BitVec 32 := 1#32
  let v2710 : BitVec 32 := Scalar.muli v19 c1_i32_3087
  let v2711 : BitVec 32 := Scalar.addi v2709 v2710
  v2711.toNat
def k0_dev36 (d0 : Dev nD) : Nat :=
  let c0_i32_3101 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3100 : BitVec 32 := 16#32
  let v2720 : BitVec 32 := Scalar.muli v2 c16_i32_3100
  let v2721 : BitVec 32 := Scalar.addi c0_i32_3101 v2720
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3102 : BitVec 32 := 4#32
  let v2722 : BitVec 32 := Scalar.muli v5 c4_i32_3102
  let v2723 : BitVec 32 := Scalar.addi v2721 v2722
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_3103 : BitVec 32 := 1#32
  let v2724 : BitVec 32 := Scalar.muli v31 c1_i32_3103
  let v2725 : BitVec 32 := Scalar.addi v2723 v2724
  v2725.toNat
def k0_dev37 (d0 : Dev nD) : Nat :=
  let c0_i32_3237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3236 : BitVec 32 := 16#32
  let v2828 : BitVec 32 := Scalar.muli v2 c16_i32_3236
  let v2829 : BitVec 32 := Scalar.addi c0_i32_3237 v2828
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3238 : BitVec 32 := 4#32
  let v2830 : BitVec 32 := Scalar.muli v5 c4_i32_3238
  let v2831 : BitVec 32 := Scalar.addi v2829 v2830
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_3239 : BitVec 32 := 1#32
  let v2832 : BitVec 32 := Scalar.muli v19 c1_i32_3239
  let v2833 : BitVec 32 := Scalar.addi v2831 v2832
  v2833.toNat
def k0_dev38 (d0 : Dev nD) : Nat :=
  let c0_i32_3253 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3252 : BitVec 32 := 16#32
  let v2842 : BitVec 32 := Scalar.muli v2 c16_i32_3252
  let v2843 : BitVec 32 := Scalar.addi c0_i32_3253 v2842
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3254 : BitVec 32 := 4#32
  let v2844 : BitVec 32 := Scalar.muli v5 c4_i32_3254
  let v2845 : BitVec 32 := Scalar.addi v2843 v2844
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_3255 : BitVec 32 := 1#32
  let v2846 : BitVec 32 := Scalar.muli v31 c1_i32_3255
  let v2847 : BitVec 32 := Scalar.addi v2845 v2846
  v2847.toNat
def k0_dev39 (d0 : Dev nD) : Nat :=
  let c0_i32_3519 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3518 : BitVec 32 := 16#32
  let v3090 : BitVec 32 := Scalar.muli v2 c16_i32_3518
  let v3091 : BitVec 32 := Scalar.addi c0_i32_3519 v3090
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3520 : BitVec 32 := 4#32
  let v3092 : BitVec 32 := Scalar.muli v5 c4_i32_3520
  let v3093 : BitVec 32 := Scalar.addi v3091 v3092
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_3521 : BitVec 32 := 1#32
  let v3094 : BitVec 32 := Scalar.muli v19 c1_i32_3521
  let v3095 : BitVec 32 := Scalar.addi v3093 v3094
  v3095.toNat
def k0_dev40 (d0 : Dev nD) : Nat :=
  let c0_i32_3535 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3534 : BitVec 32 := 16#32
  let v3104 : BitVec 32 := Scalar.muli v2 c16_i32_3534
  let v3105 : BitVec 32 := Scalar.addi c0_i32_3535 v3104
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3536 : BitVec 32 := 4#32
  let v3106 : BitVec 32 := Scalar.muli v5 c4_i32_3536
  let v3107 : BitVec 32 := Scalar.addi v3105 v3106
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_3537 : BitVec 32 := 1#32
  let v3108 : BitVec 32 := Scalar.muli v31 c1_i32_3537
  let v3109 : BitVec 32 := Scalar.addi v3107 v3108
  v3109.toNat
def k0_dev41 (d0 : Dev nD) : Nat :=
  let c0_i32_3686 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3685 : BitVec 32 := 16#32
  let v3227 : BitVec 32 := Scalar.muli v2 c16_i32_3685
  let v3228 : BitVec 32 := Scalar.addi c0_i32_3686 v3227
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3687 : BitVec 32 := 4#32
  let v3229 : BitVec 32 := Scalar.muli v5 c4_i32_3687
  let v3230 : BitVec 32 := Scalar.addi v3228 v3229
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_3688 : BitVec 32 := 1#32
  let v3231 : BitVec 32 := Scalar.muli v19 c1_i32_3688
  let v3232 : BitVec 32 := Scalar.addi v3230 v3231
  v3232.toNat
def k0_dev42 (d0 : Dev nD) : Nat :=
  let c0_i32_3702 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3701 : BitVec 32 := 16#32
  let v3241 : BitVec 32 := Scalar.muli v2 c16_i32_3701
  let v3242 : BitVec 32 := Scalar.addi c0_i32_3702 v3241
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3703 : BitVec 32 := 4#32
  let v3243 : BitVec 32 := Scalar.muli v5 c4_i32_3703
  let v3244 : BitVec 32 := Scalar.addi v3242 v3243
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_3704 : BitVec 32 := 1#32
  let v3245 : BitVec 32 := Scalar.muli v31 c1_i32_3704
  let v3246 : BitVec 32 := Scalar.addi v3244 v3245
  v3246.toNat
def k0_dev43 (d0 : Dev nD) : Nat :=
  let c0_i32_3853 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3852 : BitVec 32 := 16#32
  let v3364 : BitVec 32 := Scalar.muli v2 c16_i32_3852
  let v3365 : BitVec 32 := Scalar.addi c0_i32_3853 v3364
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3854 : BitVec 32 := 4#32
  let v3366 : BitVec 32 := Scalar.muli v5 c4_i32_3854
  let v3367 : BitVec 32 := Scalar.addi v3365 v3366
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_3855 : BitVec 32 := 1#32
  let v3368 : BitVec 32 := Scalar.muli v19 c1_i32_3855
  let v3369 : BitVec 32 := Scalar.addi v3367 v3368
  v3369.toNat
def k0_dev44 (d0 : Dev nD) : Nat :=
  let c0_i32_3869 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_3868 : BitVec 32 := 16#32
  let v3378 : BitVec 32 := Scalar.muli v2 c16_i32_3868
  let v3379 : BitVec 32 := Scalar.addi c0_i32_3869 v3378
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_3870 : BitVec 32 := 4#32
  let v3380 : BitVec 32 := Scalar.muli v5 c4_i32_3870
  let v3381 : BitVec 32 := Scalar.addi v3379 v3380
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_3871 : BitVec 32 := 1#32
  let v3382 : BitVec 32 := Scalar.muli v31 c1_i32_3871
  let v3383 : BitVec 32 := Scalar.addi v3381 v3382
  v3383.toNat
def k0_dev45 (d0 : Dev nD) : Nat :=
  let c0_i32_4062 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_4061 : BitVec 32 := 16#32
  let v3559 : BitVec 32 := Scalar.muli v2 c16_i32_4061
  let v3560 : BitVec 32 := Scalar.addi c0_i32_4062 v3559
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4063 : BitVec 32 := 4#32
  let v3561 : BitVec 32 := Scalar.muli v5 c4_i32_4063
  let v3562 : BitVec 32 := Scalar.addi v3560 v3561
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_4064 : BitVec 32 := 1#32
  let v3563 : BitVec 32 := Scalar.muli v19 c1_i32_4064
  let v3564 : BitVec 32 := Scalar.addi v3562 v3563
  v3564.toNat
def k0_dev46 (d0 : Dev nD) : Nat :=
  let c0_i32_4078 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_4077 : BitVec 32 := 16#32
  let v3573 : BitVec 32 := Scalar.muli v2 c16_i32_4077
  let v3574 : BitVec 32 := Scalar.addi c0_i32_4078 v3573
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4079 : BitVec 32 := 4#32
  let v3575 : BitVec 32 := Scalar.muli v5 c4_i32_4079
  let v3576 : BitVec 32 := Scalar.addi v3574 v3575
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_4080 : BitVec 32 := 1#32
  let v3577 : BitVec 32 := Scalar.muli v31 c1_i32_4080
  let v3578 : BitVec 32 := Scalar.addi v3576 v3577
  v3578.toNat
def k0_dev47 (d0 : Dev nD) : Nat :=
  let c0_i32_4214 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_4213 : BitVec 32 := 16#32
  let v3681 : BitVec 32 := Scalar.muli v2 c16_i32_4213
  let v3682 : BitVec 32 := Scalar.addi c0_i32_4214 v3681
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4215 : BitVec 32 := 4#32
  let v3683 : BitVec 32 := Scalar.muli v5 c4_i32_4215
  let v3684 : BitVec 32 := Scalar.addi v3682 v3683
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_4216 : BitVec 32 := 1#32
  let v3685 : BitVec 32 := Scalar.muli v19 c1_i32_4216
  let v3686 : BitVec 32 := Scalar.addi v3684 v3685
  v3686.toNat
def k0_dev48 (d0 : Dev nD) : Nat :=
  let c0_i32_4230 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_4229 : BitVec 32 := 16#32
  let v3695 : BitVec 32 := Scalar.muli v2 c16_i32_4229
  let v3696 : BitVec 32 := Scalar.addi c0_i32_4230 v3695
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4231 : BitVec 32 := 4#32
  let v3697 : BitVec 32 := Scalar.muli v5 c4_i32_4231
  let v3698 : BitVec 32 := Scalar.addi v3696 v3697
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_4232 : BitVec 32 := 1#32
  let v3699 : BitVec 32 := Scalar.muli v31 c1_i32_4232
  let v3700 : BitVec 32 := Scalar.addi v3698 v3699
  v3700.toNat
def k0_dev49 (d0 : Dev nD) : Nat :=
  let c0_i32_4366 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_4365 : BitVec 32 := 16#32
  let v3803 : BitVec 32 := Scalar.muli v2 c16_i32_4365
  let v3804 : BitVec 32 := Scalar.addi c0_i32_4366 v3803
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4367 : BitVec 32 := 4#32
  let v3805 : BitVec 32 := Scalar.muli v5 c4_i32_4367
  let v3806 : BitVec 32 := Scalar.addi v3804 v3805
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_4368 : BitVec 32 := 1#32
  let v3807 : BitVec 32 := Scalar.muli v19 c1_i32_4368
  let v3808 : BitVec 32 := Scalar.addi v3806 v3807
  v3808.toNat
def k0_dev50 (d0 : Dev nD) : Nat :=
  let c0_i32_4382 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_4381 : BitVec 32 := 16#32
  let v3817 : BitVec 32 := Scalar.muli v2 c16_i32_4381
  let v3818 : BitVec 32 := Scalar.addi c0_i32_4382 v3817
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_4383 : BitVec 32 := 4#32
  let v3819 : BitVec 32 := Scalar.muli v5 c4_i32_4383
  let v3820 : BitVec 32 := Scalar.addi v3818 v3819
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4_i32_8 : BitVec 32 := 4#32
  let v20 : BitVec 32 := Scalar.addi v8 c4_i32_8
  let c1_i32_9 : BitVec 32 := 1#32
  let v21 : BitVec 32 := Scalar.subi v20 c1_i32_9
  let c4_i32_10 : BitVec 32 := 4#32
  let c0_i32_11 : BitVec 32 := 0#32
  let v22 : BitVec 1 := Scalar.cmpi .eq c4_i32_10 c0_i32_11
  let c1_i32_12 : BitVec 32 := 1#32
  let v23 : BitVec 32 := Scalar.select v22 c1_i32_12 c4_i32_10
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_4384 : BitVec 32 := 1#32
  let v3821 : BitVec 32 := Scalar.muli v31 c1_i32_4384
  let v3822 : BitVec 32 := Scalar.addi v3820 v3821
  v3822.toNat
abbrev stage0_0 : Fin 1 → Memref sig .tc .vmem S2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x8192x2048 : Shape := ⟨3, ![4, 8192, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S4x8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | _, _ => ⟨S4x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Recut.lean ====
/-
  The kernel body written again, by direction, chunk and step. The printed body is one straight line of some six hundred
  operations; the kernel's source makes it from two directions, four chunks, three reduce-scatter steps and three all-gather
  steps. Here each operation is a definition in its direction, slot, step and chunk, and the body is their sequence.
  `body_eq` says that the printed body is this one.
-/
module

public import proofs.«01_k».proof.Defs
public import Idealize.ShloMosaic.Lib.Pipeline.Launch
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.TcCoe
open Idealize.SL Idealize.SL.Sem

variable {F : FTy → Type} [FloatOps F]

/-- The programs of this kernel. -/
abbrev KProg (F : FTy → Type) [FloatOps F] (α : Type) : Type 1 := Prog (TpuEff nD τ sig (Elt F) Λ₀ .tc) α

/-! ## Offsets in range -/

theorem inb22 (d s : Fin 2) : ∀ a, (![d.val, s.val, 0, 0] : Fin 4 → Nat) a + S1x1x256x2048.size a ≤ S2x2x256x2048.size a := by
  revert d s; decide +kernel
theorem inb23 (d : Fin 2) (k : Fin 3) : ∀ a, (![d.val, k.val, 0, 0] : Fin 4 → Nat) a + S1x1x256x2048.size a ≤ S2x3x256x2048.size a := by
  revert d k; decide +kernel
theorem inb24 (d : Fin 2) (k : Fin 4) : ∀ a, (![d.val, k.val, 0, 0] : Fin 4 → Nat) a + S1x1x256x2048.size a ≤ S2x4x256x2048.size a := by
  revert d k; decide +kernel
theorem inb2 (d : Fin 2) : ∀ a, (![d.val, 0, 0] : Fin 3 → Nat) a + S1x256x2048.size a ≤ S2x256x2048.size a := by
  revert d; decide +kernel
theorem inbS22 (d s : Fin 2) : ∀ a, (![d.val, s.val] : Fin 2 → Nat) a + S1x1.size a ≤ S2x2.size a := by
  revert d s; decide +kernel
theorem inbS23 (d : Fin 2) (k : Fin 3) : ∀ a, (![d.val, k.val] : Fin 2 → Nat) a + S1x1.size a ≤ S2x3.size a := by
  revert d k; decide +kernel
theorem inbS2 (d : Fin 2) : ∀ a, (![d.val] : Fin 1 → Nat) a + S1.size a ≤ S2.size a := by
  revert d; decide +kernel

/-! ## The slots' rectangles and whole-word evidence -/

/-- Slot `(d, s)` of a buffer of two by two slots, -/
abbrev r22 (d s : Fin 2) : Rect S2x2x256x2048 := Rect.unit (s := S2x2x256x2048) ![d.val, s.val, 0, 0] S1x1x256x2048.size (inb22 d s)
/-- slot `(d, k)` of a buffer of two by three, -/
abbrev r23 (d : Fin 2) (k : Fin 3) : Rect S2x3x256x2048 := Rect.unit (s := S2x3x256x2048) ![d.val, k.val, 0, 0] S1x1x256x2048.size (inb23 d k)
/-- slot `(d, k)` of a buffer of two by four, -/
abbrev r24 (d : Fin 2) (k : Fin 4) : Rect S2x4x256x2048 := Rect.unit (s := S2x4x256x2048) ![d.val, k.val, 0, 0] S1x1x256x2048.size (inb24 d k)
/-- slot `d` of a buffer of two. -/
abbrev r2 (d : Fin 2) : Rect S2x256x2048 := Rect.unit (s := S2x256x2048) ![d.val, 0, 0] S1x256x2048.size (inb2 d)

theorem words22 (d s : Fin 2) : (r22 d s).WholeWords (EltTy.packing .bf16) := by
  fin_cases d <;> fin_cases s
  exacts [wordsbf16_S2x2x256x2048_S1x1x256x2048_0_0_0_0, wordsbf16_S2x2x256x2048_S1x1x256x2048_0_1_0_0,
    wordsbf16_S2x2x256x2048_S1x1x256x2048_1_0_0_0, wordsbf16_S2x2x256x2048_S1x1x256x2048_1_1_0_0]
theorem words23 (d : Fin 2) (k : Fin 3) : (r23 d k).WholeWords (EltTy.packing .bf16) := by
  fin_cases d <;> fin_cases k
  exacts [wordsbf16_S2x3x256x2048_S1x1x256x2048_0_0_0_0, wordsbf16_S2x3x256x2048_S1x1x256x2048_0_1_0_0, wordsbf16_S2x3x256x2048_S1x1x256x2048_0_2_0_0,
    wordsbf16_S2x3x256x2048_S1x1x256x2048_1_0_0_0, wordsbf16_S2x3x256x2048_S1x1x256x2048_1_1_0_0, wordsbf16_S2x3x256x2048_S1x1x256x2048_1_2_0_0]
theorem words24 (d : Fin 2) (k : Fin 4) : (r24 d k).WholeWords (EltTy.packing .bf16) := by
  fin_cases d <;> fin_cases k
  exacts [wordsbf16_S2x4x256x2048_S1x1x256x2048_0_0_0_0, wordsbf16_S2x4x256x2048_S1x1x256x2048_0_1_0_0, wordsbf16_S2x4x256x2048_S1x1x256x2048_0_2_0_0, wordsbf16_S2x4x256x2048_S1x1x256x2048_0_3_0_0,
    wordsbf16_S2x4x256x2048_S1x1x256x2048_1_0_0_0, wordsbf16_S2x4x256x2048_S1x1x256x2048_1_1_0_0, wordsbf16_S2x4x256x2048_S1x1x256x2048_1_2_0_0, wordsbf16_S2x4x256x2048_S1x1x256x2048_1_3_0_0]
theorem packed22 (d s : Fin 2) : (r22 d s).PackedRows (EltTy.packing .bf16) := by
  fin_cases d <;> fin_cases s
  exacts [packedbf16_S2x2x256x2048_S1x1x256x2048_0_0_0_0, packedbf16_S2x2x256x2048_S1x1x256x2048_0_1_0_0,
    packedbf16_S2x2x256x2048_S1x1x256x2048_1_0_0_0, packedbf16_S2x2x256x2048_S1x1x256x2048_1_1_0_0]
theorem packed24 (d : Fin 2) : (r24 d 0).PackedRows (EltTy.packing .bf16) := by
  fin_cases d
  exacts [packedbf16_S2x4x256x2048_S1x1x256x2048_0_0_0_0, packedbf16_S2x4x256x2048_S1x1x256x2048_1_0_0_0]

/-! ## The buffers and their slots -/

abbrev sendM : Memref sig .tc .vmem S2x2x256x2048 .bf16 := Memref.whole cc0_scratch0
abbrev recvM : Memref sig .tc .vmem S2x3x256x2048 .bf16 := Memref.whole cc0_scratch1
abbrev agM : Memref sig .tc .vmem S2x4x256x2048 .bf16 := Memref.whole cc0_scratch2
abbrev pstM : Memref sig .tc .vmem S2x2x256x2048 .f32 := Memref.whole cc0_scratch3
abbrev rstM : Memref sig .tc .vmem S2x256x2048 .f32 := Memref.whole cc0_scratch4
abbrev ostM : Memref sig .tc .vmem S2x2x256x2048 .f32 := Memref.whole cc0_scratch5
abbrev gamM : Memref sig .tc .vmem S2048 .f32 := Memref.whole cc0_stg0_0
abbrev parM : Memref sig .tc .hbm S1x8192x2048 .f32 := Memref.whole main_arg0
abbrev resM : Memref sig .tc .hbm S8192x2048 .f32 := Memref.whole main_arg1
abbrev outM : Memref sig .tc .hbm S8192x2048 .f32 := Memref.whole main_v1

abbrev sendV (d s : Fin 2) : Memref sig .tc .vmem S256x2048 .bf16 := (sendM.slice (r22 d s) (fun _ => rfl)).squeeze S256x2048 squeezes_S1x1x256x2048_S256x2048
abbrev recvV (d : Fin 2) (k : Fin 3) : Memref sig .tc .vmem S256x2048 .bf16 := (recvM.slice (r23 d k) (fun _ => rfl)).squeeze S256x2048 squeezes_S1x1x256x2048_S256x2048
abbrev agV (d : Fin 2) (k : Fin 4) : Memref sig .tc .vmem S256x2048 .bf16 := (agM.slice (r24 d k) (fun _ => rfl)).squeeze S256x2048 squeezes_S1x1x256x2048_S256x2048
abbrev pstV (d s : Fin 2) : Memref sig .tc .vmem S256x2048 .f32 := (pstM.slice (r22 d s) (fun _ => rfl)).squeeze S256x2048 squeezes_S1x1x256x2048_S256x2048
abbrev rstV (d : Fin 2) : Memref sig .tc .vmem S256x2048 .f32 := (rstM.slice (r2 d) (fun _ => rfl)).squeeze S256x2048 squeezes_S1x256x2048_S256x2048
abbrev ostV (d s : Fin 2) : Memref sig .tc .vmem S256x2048 .f32 := (ostM.slice (r22 d s) (fun _ => rfl)).squeeze S256x2048 squeezes_S1x1x256x2048_S256x2048

/-- Offsets of a 256-row block of the partial array in range; of one of the residual and the result. -/
abbrev InP (off : Fin 3 → Nat) : Prop := ∀ a, off a + S1x256x2048.size a ≤ S1x8192x2048.size a
abbrev InR (off : Fin 2 → Nat) : Prop := ∀ a, off a + S256x2048.size a ≤ S8192x2048.size a

abbrev parV (off : Fin 3 → Nat) (h : InP off) : Memref sig .tc .hbm S256x2048 .f32 :=
  (parM.slice (Rect.unit (s := S1x8192x2048) off S1x256x2048.size h) (fun _ => rfl)).squeeze S256x2048 squeezes_S1x256x2048_S256x2048
abbrev resV (off : Fin 2 → Nat) (h : InR off) : Memref sig .tc .hbm S256x2048 .f32 :=
  resM.slice (Rect.unit (s := S8192x2048) off S256x2048.size h) (fun _ => rfl)
abbrev outV (off : Fin 2 → Nat) (h : InR off) : Memref sig .tc .hbm S256x2048 .f32 :=
  outM.slice (Rect.unit (s := S8192x2048) off S256x2048.size h) (fun _ => rfl)

/-! ## The semaphores -/

abbrev barS : Sems sig S_ := SemArray.scalar (sig.barrier 0 rfl)
abbrev sem23 (A : DmaSems sig S2x3) (d : Fin 2) (k : Fin 3) : DmaSems sig S_ := (A.slice (Rect.unit (s := S2x3) ![d.val, k.val] S1x1.size (inbS23 d k))).squeeze S_ squeezes_S1x1_S_
abbrev sem22 (A : DmaSems sig S2x2) (d s : Fin 2) : DmaSems sig S_ := (A.slice (Rect.unit (s := S2x2) ![d.val, s.val] S1x1.size (inbS22 d s))).squeeze S_ squeezes_S1x1_S_
abbrev sem2 (A : DmaSems sig S2) (d : Fin 2) : DmaSems sig S_ := (A.slice (Rect.unit (s := S2) ![d.val] S1.size (inbS2 d))).squeeze S_ squeezes_S1_S_

abbrev rsSendS (d : Fin 2) (k : Fin 3) : DmaSems sig S_ := sem23 cc0_scratch6 d k
abbrev rsRecvS (d : Fin 2) (k : Fin 3) : DmaSems sig S_ := sem23 cc0_scratch7 d k
abbrev agSendS (d : Fin 2) (k : Fin 3) : DmaSems sig S_ := sem23 cc0_scratch8 d k
abbrev agRecvS (d : Fin 2) (k : Fin 3) : DmaSems sig S_ := sem23 cc0_scratch9 d k
abbrev pstS (d s : Fin 2) : DmaSems sig S_ := sem22 cc0_scratch10 d s
abbrev rstS (d : Fin 2) : DmaSems sig S_ := sem2 cc0_scratch11 d
abbrev ostS (d s : Fin 2) : DmaSems sig S_ := sem22 cc0_scratch12 d s

/-! ## The printed offsets and devices, by direction, chunk and step -/

/-- The neighbour that direction `d` sends to, by the printed words: the next along the third axis, or the previous. -/
def nbrW (c : Dev nD) : Fin 2 → Dev nD
  | 0 => ⟨k0_dev1 c, k0_dev1_lt c⟩
  | 1 => ⟨k0_dev2 c, k0_dev2_lt c⟩

/-- The first row of direction `d`'s chunk `ch`. -/
abbrev rowW (d : Fin 2) (ch : Fin 4) : BitVec 32 := BitVec.ofNat 32 (4096 * d.val + 1024 * ch.val)

/-- The block of the partial array that starts the reduction; -/
def offSend (c : Dev nD) (d : Fin 2) (ch : Fin 4) : Fin 3 → Nat := k0_off1 c (rowW d ch)
/-- the one added at step `k`; -/
def offRecv (c : Dev nD) (d : Fin 2) (ch : Fin 4) (k : Fin 3) : Fin 3 → Nat :=
  match d with
  | 0 => k0_off4 c (rowW 0 ch) (BitVec.ofNat 32 k.val)
  | 1 => k0_off5 c (rowW 1 ch) (BitVec.ofNat 32 k.val)
/-- the block of rows that the device finishes; -/
def offOwn (c : Dev nD) (d : Fin 2) (ch : Fin 4) : Fin 2 → Nat :=
  match d with
  | 0 => k0_off2 c (rowW 0 ch) 1#32
  | 1 => k0_off3 c (rowW 1 ch)
/-- the block of rows that all-gather step `k` brings. -/
def offAg (c : Dev nD) (d : Fin 2) (ch : Fin 4) (k : Fin 3) : Fin 2 → Nat :=
  k0_off2 c (rowW d ch) (match d, k with | 0, 0 => 0#32 | 0, 1 => 3#32 | 0, 2 => 2#32 | 1, 0 => 0#32 | 1, 1 => 1#32 | 1, 2 => 2#32)

theorem offSend_in (c : Dev nD) (d : Fin 2) (ch : Fin 4) : InP (offSend c d ch) := by revert c d ch; decide +kernel
theorem offRecv_in (c : Dev nD) (d : Fin 2) (ch : Fin 4) (k : Fin 3) : InP (offRecv c d ch k) := by revert c d ch k; decide +kernel
theorem offOwn_in (c : Dev nD) (d : Fin 2) (ch : Fin 4) : InR (offOwn c d ch) := by revert c d ch; decide +kernel
theorem offAg_in (c : Dev nD) (d : Fin 2) (ch : Fin 4) (k : Fin 3) : InR (offAg c d ch k) := by revert c d ch k; decide +kernel

/-! ## The operations -/

/-- Start the copy of a block of the partial array into staging slot `(d, s)`; -/
def startP (d s : Fin 2) (off : Fin 3 → Nat) (h : InP off) : KProg F PUnit :=
  Prog.lift (.enqueueDma (parV off h) (.here (pstV d s)) (.dma (pstS d s).sem) ((View.wordExact_bits rfl).reshape _ _) ((View.wordExact_bits rfl).reshape _ _) ⟨Or.inl rfl, trivial⟩)
/-- wait for it. -/
def waitP (d s : Fin 2) (off : Fin 3 → Nat) (h : InP off) : KProg F PUnit :=
  Prog.lift (.waitDma2 (pstS d s).sem (parV off h) (pstV d s) ((View.wordExact_bits rfl).reshape _ _) ((View.wordExact_bits rfl).reshape _ _))
/-- The same of a block of the residual, -/
def startR (d : Fin 2) (off : Fin 2 → Nat) (h : InR off) : KProg F PUnit :=
  Prog.lift (.enqueueDma (resV off h) (.here (rstV d)) (.dma (rstS d).sem) (View.wordExact_bits rfl) ((View.wordExact_bits rfl).reshape _ _) ⟨Or.inl rfl, trivial⟩)
def waitR (d : Fin 2) (off : Fin 2 → Nat) (h : InR off) : KProg F PUnit :=
  Prog.lift (.waitDma2 (rstS d).sem (resV off h) (rstV d) (View.wordExact_bits rfl) ((View.wordExact_bits rfl).reshape _ _))
/-- and of a staged block of the result out to its rows. -/
def startO (d s : Fin 2) (off : Fin 2 → Nat) (h : InR off) : KProg F PUnit :=
  Prog.lift (.enqueueDma (ostV d s) (.here (outV off h)) (.dma (ostS d s).sem) ((View.wordExact_bits rfl).reshape _ _) (View.wordExact_bits rfl) ⟨Or.inl rfl, trivial⟩)
def waitO (d s : Fin 2) (off : Fin 2 → Nat) (h : InR off) : KProg F PUnit :=
  Prog.lift (.waitDma2 (ostS d s).sem (ostV d s) (outV off h) ((View.wordExact_bits rfl).reshape _ _) (View.wordExact_bits rfl))

theorem sendX (d s : Fin 2) : (sendV d s).view.WordExact := ((Memref.isWhole_whole cc0_scratch0).wordExact_slice rfl _ (words22 d s)).reshape _ _
theorem recvX (d : Fin 2) (k : Fin 3) : (recvV d k).view.WordExact := ((Memref.isWhole_whole cc0_scratch1).wordExact_slice rfl _ (words23 d k)).reshape _ _
theorem agX (d : Fin 2) (k : Fin 4) : (agV d k).view.WordExact := ((Memref.isWhole_whole cc0_scratch2).wordExact_slice rfl _ (words24 d k)).reshape _ _

/-- The slot of the send buffer that step `k` sends from, and the one it fills for the next step. -/
def srcSlot : Fin 3 → Fin 2 | 0 => 0 | 1 => 1 | 2 => 0
def nextSlot : Fin 3 → Fin 2 | 0 => 1 | 1 => 0 | 2 => 1

/-- Reduce-scatter step `k`: start the remote copy to `t`, -/
def rsStart (t : Dev nD) (d : Fin 2) (k : Fin 3) : KProg F PUnit :=
  Prog.lift (.enqueueDma (sendV d (srcSlot k)) (.remote (Dev.tc t) (recvV d k) (.dma (rsSendS d k).sem)) (.dma (rsRecvS d k).sem) (sendX d (srcSlot k)) (recvX d k) ⟨⟨rfl, Or.inl rfl⟩, trivial⟩)
/-- wait until the source is read, -/
def rsWaitS (d : Fin 2) (k : Fin 3) : KProg F PUnit :=
  Prog.lift (.waitDma2 (rsSendS d k).sem (recvV d k) (sendV d (srcSlot k)) (recvX d k) (sendX d (srcSlot k)))
/-- and until the neighbour's copy has landed. -/
def rsWaitR (d : Fin 2) (k : Fin 3) : KProg F PUnit :=
  Prog.lift (.waitDma2 (rsRecvS d k).sem (sendV d (srcSlot k)) (recvV d k) (sendX d (srcSlot k)) (recvX d k))

/-- All-gather step `k`: the same three. -/
def agStart (t : Dev nD) (d : Fin 2) (k : Fin 3) : KProg F PUnit :=
  Prog.lift (.enqueueDma (agV d k.castSucc) (.remote (Dev.tc t) (agV d k.succ) (.dma (agSendS d k).sem)) (.dma (agRecvS d k).sem) (agX d k.castSucc) (agX d k.succ) ⟨⟨rfl, Or.inl rfl⟩, trivial⟩)
def agWaitS (d : Fin 2) (k : Fin 3) : KProg F PUnit :=
  Prog.lift (.waitDma2 (agSendS d k).sem (agV d k.succ) (agV d k.castSucc) (agX d k.succ) (agX d k.castSucc))
def agWaitR (d : Fin 2) (k : Fin 3) : KProg F PUnit :=
  Prog.lift (.waitDma2 (agRecvS d k).sem (agV d k.castSucc) (agV d k.succ) (agX d k.castSucc) (agX d k.succ))

/-- The loads of a slot of each buffer, -/
def loadP (d s : Fin 2) : KProg F (Vec F S1x1x256x2048 .f32) := Prog.lift (.load pstM (r22 d s).toLoadRect (View.loadsAt_vmem h_S1x1x256x2048))
def loadS (d s : Fin 2) : KProg F (Vec F S1x1x256x2048 .bf16) := Prog.lift (.load sendM (r22 d s).toLoadRect (View.loadsAt_vmem h_S1x1x256x2048))
def loadV (d : Fin 2) (k : Fin 3) : KProg F (Vec F S1x1x256x2048 .bf16) := Prog.lift (.load recvM (r23 d k).toLoadRect (View.loadsAt_vmem h_S1x1x256x2048))
def loadA (d : Fin 2) (k : Fin 4) : KProg F (Vec F S1x1x256x2048 .bf16) := Prog.lift (.load agM (r24 d k).toLoadRect (View.loadsAt_vmem h_S1x1x256x2048))
def loadR (d : Fin 2) : KProg F (Vec F S1x256x2048 .f32) := Prog.lift (.load rstM (r2 d).toLoadRect (View.loadsAt_vmem h_S1x256x2048))
def loadO (d s : Fin 2) : KProg F (Vec F S1x1x256x2048 .f32) := Prog.lift (.load ostM (r22 d s).toLoadRect (View.loadsAt_vmem h_S1x1x256x2048))
def loadG : KProg F (Vec F S2048 .f32) := Prog.lift (.load gamM (Rect.unit (s := S2048) ![0] S2048.size inb_S2048_S2048_0).toLoadRect (View.loadsAt_vmem h_S2048))
/-- and the stores. -/
def storeS (d s : Fin 2) (v : Vec F S1x1x256x2048 .bf16) : KProg F PUnit :=
  Prog.lift (.store sendM (r22 d s) v Finset.univ (View.stores_vmem h_S1x1x256x2048 ((Memref.isWhole_whole cc0_scratch0).storeExact_slice rfl _ (packed22 d s)) (fun _ => rfl)) (.inl rfl))
def storeA (d : Fin 2) (v : Vec F S1x1x256x2048 .bf16) : KProg F PUnit :=
  Prog.lift (.store agM (r24 d 0) v Finset.univ (View.stores_vmem h_S1x1x256x2048 ((Memref.isWhole_whole cc0_scratch2).storeExact_slice rfl _ (packed24 d)) (fun _ => rfl)) (.inl rfl))
def storeO (d s : Fin 2) (v : Vec F S1x1x256x2048 .f32) : KProg F PUnit :=
  Prog.lift (.store ostM (r22 d s) v Finset.univ (View.stores_vmem_bits_univ h_S1x1x256x2048 rfl) (.inl rfl))

/-! ## The body -/

/-- Stage a chunk's first block of the partial sums and the residual's block; -/
def beginD (c : Dev nD) (ch : Fin 4) (d : Fin 2) : KProg F PUnit := do
  startP d 0 (offSend c d ch) (offSend_in c d ch)
  startR d (offOwn c d ch) (offOwn_in c d ch)
/-- narrow it into the send buffer and stage the next block; -/
def firstD (c : Dev nD) (ch : Fin 4) (d : Fin 2) : KProg F PUnit := do
  waitP d 0 (offSend c d ch) (offSend_in c d ch)
  let v ← loadP d 0
  let _ ← loadS d 0
  storeS d 0 (k0_pay1 v)
  startP d 1 (offRecv c d ch 0) (offRecv_in c d ch 0)
/-- take a reduce-scatter step's block, add the own one to it and narrow the sum into the other send slot; -/
def foldD (c : Dev nD) (ch : Fin 4) (k k' : Fin 3) (d : Fin 2) : KProg F PUnit := do
  startP d (srcSlot k) (offRecv c d ch k') (offRecv_in c d ch k')
  waitP d (nextSlot k) (offRecv c d ch k) (offRecv_in c d ch k)
  rsWaitS d k
  rsWaitR d k
  let u ← loadV d k
  let v ← loadP d (nextSlot k)
  let _ ← loadS d (nextSlot k)
  storeS d (nextSlot k) (k0_pay5 u v)
/-- after the last one, finish the rows: add the residual, normalise, scale, start the copy out and keep the narrowed rows; -/
def finishD (c : Dev nD) (ch : Fin 4) (w : Fin 2 → KProg F PUnit) (d : Fin 2) : KProg F PUnit := do
  waitP d 1 (offRecv c d ch 2) (offRecv_in c d ch 2)
  rsWaitS d 2
  rsWaitR d 2
  waitR d (offOwn c d ch) (offOwn_in c d ch)
  let u ← loadV d 2
  let v ← loadP d 1
  let r ← loadR d
  let g ← loadG
  w d
  let _ ← loadO d 0
  storeO d 0 (k0_pay10 (k0_pay3 u) v r g)
  startO d 0 (offOwn c d ch) (offOwn_in c d ch)
  let _ ← loadA d 0
  storeA d (k0_pay11 (k0_pay9 (k0_pay3 u) v r g))
/-- take an all-gather step's block, widen it and start the copy out. -/
def takeD (c : Dev nD) (ch : Fin 4) (k : Fin 3) (s : Fin 2) (w : Fin 2 → KProg F PUnit) (d : Fin 2) : KProg F PUnit := do
  agWaitS d k
  agWaitR d k
  w d
  let u ← loadA d k.succ
  let _ ← loadO d s
  storeO d s (k0_pay17 u)
  startO d s (offAg c d ch k) (offAg_in c d ch k)

/-- A chunk, given the waits for the copies out of the chunk before it. -/
def chunk (c : Dev nD) (w0 w1 : Fin 2 → KProg F PUnit) (ch : Fin 4) : KProg F PUnit := do
  beginD c ch 0; beginD c ch 1
  firstD c ch 0; firstD c ch 1
  rsStart (nbrW c 0) 0 0; rsStart (nbrW c 1) 1 0
  foldD c ch 0 1 0; foldD c ch 0 1 1
  rsStart (nbrW c 0) 0 1; rsStart (nbrW c 1) 1 1
  foldD c ch 1 2 0; foldD c ch 1 2 1
  rsStart (nbrW c 0) 0 2; rsStart (nbrW c 1) 1 2
  finishD c ch w0 0; finishD c ch w0 1
  agStart (nbrW c 0) 0 0; agStart (nbrW c 1) 1 0
  takeD c ch 0 1 w1 0; takeD c ch 0 1 w1 1
  agStart (nbrW c 0) 0 1; agStart (nbrW c 1) 1 1
  takeD c ch 1 0 (fun d => waitO d 0 (offOwn c d ch) (offOwn_in c d ch)) 0
  takeD c ch 1 0 (fun d => waitO d 0 (offOwn c d ch) (offOwn_in c d ch)) 1
  agStart (nbrW c 0) 0 2; agStart (nbrW c 1) 1 2
  takeD c ch 2 1 (fun d => waitO d 1 (offAg c d ch 0) (offAg_in c d ch 0)) 0
  takeD c ch 2 1 (fun d => waitO d 1 (offAg c d ch 0) (offAg_in c d ch 0)) 1

/-- The waits for the last copies out of chunk `ch`, in slot 0 and in slot 1. -/
def lastO0 (c : Dev nD) (ch : Fin 4) (d : Fin 2) : KProg F PUnit := waitO d 0 (offAg c d ch 1) (offAg_in c d ch 1)
def lastO1 (c : Dev nD) (ch : Fin 4) (d : Fin 2) : KProg F PUnit := waitO d 1 (offAg c d ch 2) (offAg_in c d ch 2)

/-- The whole body. -/
def body : KProg F PUnit := do
  let c ← Prog.lift .deviceId
  semSignalWord (nbrW c 0) barS.sem 1#32
  semSignalWord (nbrW c 1) barS.sem 1#32
  semWaitWord barS.sem 2#32
  chunk c (fun _ => pure ⟨⟩) (fun _ => pure ⟨⟩) 0
  chunk c (lastO0 c 0) (lastO1 c 0) 1
  chunk c (lastO0 c 1) (lastO1 c 1) 2
  chunk c (lastO0 c 2) (lastO1 c 2) 3
  lastO0 c 3 0; lastO0 c 3 1; lastO1 c 3 0; lastO1 c 3 1

/-- The printed body is this one. -/
theorem body_eq :
    cc0_body (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12
      = body := by
  sl_kernel_rfl

end Cert.Proof

end
-- ==== Proof.Common.lean ====
/-
  The resources of the kernel's run: the algebra, the ring of four devices along the third mesh axis, the channels (one per
  direction and step of the two phases), and the generic rules for a slot of a buffer: a load, a store and a local copy.
-/
module

public import proofs.«01_k».proof.Proof.Recut
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Transfers
public import Idealize.ShloMosaic.Lib.Memref
public import Idealize.ShloMosaic.Lib.Tactic

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

/-! ## The algebra: the staging pipeline's rounds, the channels' rounds, the local copies' counters -/

abbrev UX : Type := URounds (GSem nD τ sig) (Fin 2)
abbrev UU : Type := UR sig nD τ × (UX × Counters)

local notation "𝕄" => MT nD τ sig ℕ (Elt F) ℕ UU ℕ

abbrev EP : Emb (UR sig nD τ) (MT nD τ sig ℕ (Elt F) ℕ UU ℕ) := embL
def ER : Emb UX (MT nD τ sig ℕ (Elt F) ℕ UU ℕ) :=
  ((Emb.inl : Emb UX (UX × Counters)).trans (Emb.inr : Emb (UX × Counters) UU)).trans
    (uEmb (nD := nD) (sig := sig) (Ix := ℕ) (Val := Elt F) (Name := ℕ) (U := UU) (Lvl := ℕ)).toEmb
instance ER_landsIn : (ER : Emb UX 𝕄).LandsIn (upEmb : UEmb _ 𝕄) := by unfold ER; infer_instance
abbrev EC : UEmb Counters (MT nD τ sig ℕ (Elt F) ℕ UU ℕ) := countersEmb (U := UU)

abbrev 𝒱₀ : Variants := Variants.none

/-- The weakest precondition of a stretch of the body on device `c`. -/
abbrev WP {α : Type} (c : Dev nD) (p : KProg F α) (Q : α → sProp 𝕄) : sProp 𝕄 :=
  wp frame (wpE (defs₀ (F := F)) 𝒱₀ (c : Thread nD τ) none) Set.univ p Q

/-! ## Slots -/

/-- What a load through the uncut rectangle reads, from what the slot holds; -/
def cutUp {s s' : Shape} {e : EltTy} (h : s'.numel = s.numel) (X : Vec F s' e) : Vec F s e := fun y => X ((Shape.reshapeEquiv h).symm y)
/-- what the slot holds, after a store through the uncut rectangle. -/
def cutDown {s s' : Shape} {e : EltTy} (h : s'.numel = s.numel) (v : Vec F s e) : Vec F s' e := fun x => v (Shape.reshapeEquiv h x)

omit [FloatOps F] in
theorem cutUp_down {s s' : Shape} {e : EltTy} (h : s'.numel = s.numel) (v : Vec F s e) : cutUp h (cutDown h v) = v :=
  funext fun y => by unfold cutUp cutDown; rw [Equiv.apply_symm_apply]
omit [FloatOps F] in
theorem cutDown_up {s s' : Shape} {e : EltTy} (h : s'.numel = s.numel) (X : Vec F s' e) : cutDown h (cutUp h X) = X :=
  funext fun y => congrArg X (Equiv.symm_apply_apply _ y)

/-- Device `c` holds the view `V`, whole, reading `X`. -/
abbrev has {sp : Space} {s : Shape} {e : EltTy} (c : Dev nD) (V : Memref sig .tc sp s e) (X : Vec F s e) : sProp 𝕄 :=
  owns (c : Thread nD τ) V fullShare X
/-- Device `c` holds the view `V`, whole, whatever it reads. -/
abbrev any {sp : Space} {s : Shape} {e : EltTy} (c : Dev nD) (V : Memref sig .tc sp s e) : sProp 𝕄 :=
  iprop(∃ X : Vec F s e, has c V X)

section Slots

variable {s s' : Shape} {e : EltTy} (c : Dev nD) (M : Memref sig .tc .vmem s e) (r : Rect s) (h1 : ∀ a, r.stride a = 1) (hq : r.shape.Squeezes s')

omit [FloatOps F] in
theorem slot_read (f : M.view.ty.Contents (Elt F)) :
    ((M.slice r h1).squeeze s' hq).view.read (Elt F) f = cutDown hq.numel_eq ((M.access r).read (Elt F) f) := rfl

theorem wp_loadSlot {q : PosShare TreeShare} {X : Vec F s' e} {hl : M.view.LoadsAt r.toLoadRect} {α : Type} {k : (r.toLoadRect.shape.Idx → Elt F e) → KProg F α} {Q : α → sProp 𝕄} :
    (owns (c : Thread nD τ) ((M.slice r h1).squeeze s' hq) q X : sProp 𝕄)
      ⊢ iprop((owns (c : Thread nD τ) ((M.slice r h1).squeeze s' hq) q X -∗ WP c (k (cutUp hq.numel_eq X)) Q) -∗ WP c (.op (.load M r.toLoadRect hl) k) Q) := by
  unfold owns
  iintro ⟨%f, %hf, H⟩ Hk
  iapply (wp_load_rect 𝒱₀ (c : Thread nD τ) none Set.univ (m := M) (r := r) (S := ((M.slice r h1).squeeze s' hq).view.set) (subset_of_eq (View.set_reshape _ _).symm)) $$ H
  iintro H
  have e : (M.access r).read (Elt F) f = cutUp hq.numel_eq X := by rw [← hf, slot_read, cutUp_down]
  rw [e]
  iapply Hk
  iexists f
  isplitr; · ipureintro; exact hf
  iexact H

theorem wp_storeSlot {w : r.shape.Idx → Elt F e} {hx : (M.access r).Stores Finset.univ} {hm : Finset.univ = Finset.univ ∨ ∀ a, r.stride a = 1} {α : Type} {k : PUnit → KProg F α} {Q : α → sProp 𝕄} :
    (any c ((M.slice r h1).squeeze s' hq) : sProp 𝕄)
      ⊢ iprop((has c ((M.slice r h1).squeeze s' hq) (cutDown hq.numel_eq w) -∗ WP c (k ⟨⟩) Q) -∗ WP c (.op (.store M r w Finset.univ hx hm) k) Q) := by
  unfold any has owns
  iintro ⟨%X, %f, %hf, H⟩ Hk
  iapply (wp_store 𝒱₀ (c : Thread nD τ) none Set.univ (m := M) (r := r) (Mk := Finset.univ) (S := ((M.slice r h1).squeeze s' hq).view.set) (subset_of_eq (View.set_reshape _ _).symm)) $$ H
  iintro H
  iapply Hk
  iexists _
  isplitr
  swap; · iexact H
  ipureintro
  rw [slot_read, View.read_write_univ]

end Slots

/-! ## Local copies -/

section Copies

variable {sp sp' : Space} {s : Shape} {e : EltTy} (c : Dev nD)

/-- A copy in flight: at the wait it delivers `D`. -/
abbrev fly (c : Dev nD) (sm : DmaSem sig) (N : ℕ) (D : sProp 𝕄) : sProp 𝕄 := Flight EC (c : Thread nD τ) (.dma sm) 0 N D

/-- Issue a local copy of what `src` reads into `dst`. -/
theorem wp_copy {src : Memref sig .tc sp s e} {dst : Memref sig .tc sp' s e} {sm : DmaSem sig} {q : PosShare TreeShare} {X : Vec F s e}
    {hsrc : src.view.WordExact} {hdst : dst.view.WordExact} {hsem : DmaTarget.Typed (nD := nD) (τ := τ) (p := .tc) sp (.dma sm) (.here dst)} {α : Type} {k : PUnit → KProg F α} {Q : α → sProp 𝕄}
    (N : ℕ) (hN : dst.view.dmaCredit = N) (hN0 : 0 < N) :
    iprop(owns (c : Thread nD τ) src q X ∗ any c dst ∗ semVal ((c : Thread nD τ), .dma sm) 0)
      ⊢ iprop((fly c sm N iprop(owns (c : Thread nD τ) src q X ∗ has c dst X) -∗ WP c (k ⟨⟩) Q)
          -∗ WP c (.op (.enqueueDma src (.here dst) (.dma sm) hsrc hdst hsem) k) Q) := by
  unfold any has owns
  iintro ⟨⟨%f, %hf, Hs⟩, ⟨%Y, %g, %hg, Hd⟩, Hv⟩ Hk
  iapply (wp_dmaLocal EC 𝒱₀ (c : Thread nD τ) none (sm := .dma sm) 0 N hN hN0 (Sd := dst.view.set) subset_rfl) $$ [Hs Hd Hv]
  · isplitl [Hs]; · iexact Hs
    isplitl [Hd]; · iexact Hd
    iexact Hv
  iintro Hf
  iapply Hk
  iapply (Flight_mono EC (c : Thread nD τ) ?_) $$ Hf
  iintro ⟨Hd, Hs⟩
  isplitl [Hs]
  · iexists f
    isplitr; · ipureintro; exact hf
    iexact Hs
  iexists _
  isplitr
  swap; · iexact Hd
  ipureintro
  rw [View.read_write_univ]
  exact hf

end Copies

/-! ## What a device owes and the waits it may make -/

/-- Device `c` owes `O`, whatever it waited for. -/
abbrev ow (c : Dev nD) (O : CellTallies nD τ sig ℕ) : sProp 𝕄 := iprop(∃ W : Waits sig ℕ, owes (c : Thread nD τ) O W)

/-- The cells' indices: on every core's cell a chunk's number. -/
def L (g : GSem nD τ sig) : Finset ℕ := if g.1.2 = .tc then Finset.range 4 else ∅

theorem L_tc (c : Dev nD) (sm : SemLoc sig) : L ((c : Thread nD τ), sm) = Finset.range 4 := if_pos rfl
theorem L_of_ne (g : GSem nD τ sig) (h : g.1.2 ≠ .tc) : L g = ∅ := if_neg h

/-- The rank of a DMA semaphore in a chunk's order of waits: the reduce-scatter's receive semaphores by step, then the
    all-gather's; nothing for the others. -/
def rank (n ι : ℕ) : ℕ :=
  if 7 ≤ n ∧ n ≤ 12 then 2 + 6 * ι + (n - 7) % 3 else if 19 ≤ n ∧ n ≤ 24 then 5 + 6 * ι + (n - 19) % 3 else 0

/-- The levels: the barrier, then the receive cells in the order of the waits, chunk after chunk; the others, with which no
    other device has to do, below. -/
def lv (g : GSem nD τ sig) (ι : ℕ) : ℕ :=
  match g.2 with
  | .reg _ => 1
  | .dma q => rank q.val ι

/-- All that `O` owes lies above level `n`. -/
def Above (n : ℕ) (O : CellTallies nD τ sig ℕ) : Prop := ∀ g i, 0 < O g i → i ∈ L g ∧ n < lv g i

theorem Above.le {n n' : ℕ} {O : CellTallies nD τ sig ℕ} (h : Above n O) (hn : n' ≤ n) : Above n' O :=
  fun g i hp => ⟨(h g i hp).1, Nat.lt_of_le_of_lt hn (h g i hp).2⟩

omit [FloatOps F] in
theorem mayWait (c : Dev nD) (sm : SemLoc sig) (ι : ℕ) (hι : ι < 4) {O : CellTallies nD τ sig ℕ} (hO : Above (lv ((c : Thread nD τ), sm) ι) O) :
    (levAts L lv : sProp 𝕄) ⊢ MayWait (c : Thread nD τ) sm ι O :=
  Pipeline.mayWait_of_levAts (by rw [L_tc]; exact Finset.mem_range.mpr hι) hO

/-- Wait for a local copy, on a semaphore of the lowest level. -/
theorem wp_copyWait {sp sp' : Space} {s : Shape} {e : EltTy} (c : Dev nD) {src : Memref sig .tc sp s e} {dst : Memref sig .tc sp' s e} {sm : DmaSem sig}
    {hsrc : src.view.WordExact} {hdst : dst.view.WordExact} {α : Type} {k : PUnit → KProg F α} {Q : α → sProp 𝕄} {D : sProp 𝕄} {O : CellTallies nD τ sig ℕ}
    (N : ℕ) (hN : dst.view.dmaCredit = N) (hlv : rank sm.val 0 = 0) (hO : Above 0 O) :
    iprop(levAts L lv ∗ fly c sm N D ∗ ow c O)
      ⊢ iprop(((D ∗ semVal ((c : Thread nD τ), .dma sm) 0 ∗ ow c O) -∗ WP c (k ⟨⟩) Q)
          -∗ WP c (.op (.waitDma2 sm src dst hsrc hdst) k) Q) := by
  iintro ⟨#Hlev, Hf, ⟨%W, HO⟩⟩ Hk
  iapply (wp_waitLocalO EC 𝒱₀ (c : Thread nD τ) none 0 hN (O := O) (W := W)) $$ [Hf HO]
  · isplitl [Hf]; · iexact Hf
    isplitl [HO]; · iexact HO
    iapply (mayWait c (.dma sm) 0 (by decide) (hO.le (le_of_eq hlv))); iexact Hlev
  iintro ⟨HD, Hv, HO⟩
  iapply Hk
  isplitl [HD]; · iexact HD
  isplitl [Hv]; · iexact Hv
  iexists _; iexact HO

end Cert.Proof

end
-- ==== Proof.Protocol.lean ====
/-
  The exchange among the four devices of a ring: its channels, what the messages hold, and the schedule of the rounds.

  A channel is one direction and step of one phase: a send semaphore, a receive semaphore, the slot copied and the slot
  written on the neighbour. Its rounds are the four chunks. Besides the data, the first message of each phase hands over the
  slots that the receiver will write in the other direction: a slot is handed over only after its holder is done with it, so no
  copy overtakes a reader.
-/
module

public import proofs.«01_k».proof.Proof.Common

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

/-! ## The ring -/

/-- The other direction. -/
def opp : Fin 2 → Fin 2 | 0 => 1 | 1 => 0

theorem opp_opp (d : Fin 2) : opp (opp d) = d := by revert d; decide
theorem nbr_opp (c : Dev nD) (d : Fin 2) : nbrW (nbrW c d) (opp d) = c := by revert c d; decide +kernel
theorem nbr_opp' (c : Dev nD) (d : Fin 2) : nbrW (nbrW c (opp d)) d = c := by revert c d; decide +kernel

/-- The device that direction `d` receives from. -/
abbrev srcW (c : Dev nD) (d : Fin 2) : Dev nD := nbrW c (opp d)

/-! ## The channels -/

/-- Phase (0 the reduce-scatter, 1 the all-gather), direction, step. -/
abbrev Chan : Type := Fin 2 × Fin 2 × Fin 3

def sS : Chan → DmaSem sig
  | (0, d, k) => (rsSendS d k).sem
  | (1, d, k) => (agSendS d k).sem
def rS : Chan → DmaSem sig
  | (0, d, k) => (rsRecvS d k).sem
  | (1, d, k) => (agRecvS d k).sem
/-- The slot that a channel copies, -/
def srcV : Chan → Memref sig .tc .vmem S256x2048 .bf16
  | (0, d, k) => sendV d (srcSlot k)
  | (1, d, k) => agV d k.castSucc
/-- and the one on the neighbour that it writes. -/
def dstV : Chan → Memref sig .tc .vmem S256x2048 .bf16
  | (0, d, k) => recvV d k
  | (1, d, k) => agV d k.succ

theorem sS_inj : Function.Injective sS := by decide
theorem rS_inj : Function.Injective rS := by decide
theorem sS_ne_rS (x y : Chan) : sS x ≠ rS y := by revert x y; decide

/-- The credit of a slot's copy. -/
@[irreducible] def N : ℕ := (recvV 0 0).view.dmaCredit
theorem N_pos : 0 < N := by unfold N; exact View.dmaCredit_pos _ (by decide)
theorem dst_credit (x : Chan) : (dstV x).view.dmaCredit = N := by
  obtain ⟨g, d, k⟩ := x
  unfold N
  fin_cases g <;> rfl
theorem src_credit (x : Chan) : (srcV x).view.dmaCredit = N := by
  obtain ⟨g, d, k⟩ := x
  unfold N
  fin_cases g <;> rfl

abbrev barCell (c : Dev nD) : GSem nD τ sig := ((c : Thread nD τ), .reg barS.sem)
abbrev sCell (c : Dev nD) (x : Chan) : GSem nD τ sig := ((c : Thread nD τ), .dma (sS x))
abbrev rCell (c : Dev nD) (x : Chan) : GSem nD τ sig := ((c : Thread nD τ), .dma (rS x))

/-- The level of a channel's receive cell in chunk `ch`. -/
def lev (x : Chan) (ch : ℕ) : ℕ := 2 + 6 * ch + 3 * x.1.val + x.2.2.val

theorem rS_val (x : Chan) : (rS x).val = 7 + 12 * x.1.val + 3 * x.2.1.val + x.2.2.val := by revert x; decide

theorem rank_rS (x : Chan) (ch : ℕ) : rank (rS x).val ch = lev x ch := by
  have h := rS_val x
  have hg := x.1.isLt; have hd := x.2.1.isLt; have hk := x.2.2.isLt
  unfold rank lev
  split_ifs <;> omega
theorem rank_sS (x : Chan) (ch : ℕ) : rank (sS x).val ch = 0 := by
  have h : ¬(7 ≤ (sS x).val ∧ (sS x).val ≤ 12) ∧ ¬(19 ≤ (sS x).val ∧ (sS x).val ≤ 24) := by revert x; decide
  unfold rank; rw [if_neg h.1, if_neg h.2]
theorem lv_rCell (c : Dev nD) (x : Chan) (ch : ℕ) : lv (rCell c x) ch = lev x ch := rank_rS x ch
theorem lv_sCell (c : Dev nD) (x : Chan) (ch : ℕ) : lv (sCell c x) ch = 0 := rank_sS x ch

/-! ## What the slots hold -/

variable (m : (ℓ : Loc nD τ sig) → Buf (Elt F) ℓ)

abbrev h4 : S256x2048.numel = S1x1x256x2048.numel := squeezes_S1x1x256x2048_S256x2048.numel_eq
abbrev h3 : S256x2048.numel = S1x256x2048.numel := squeezes_S1x256x2048_S256x2048.numel_eq

/-- A block of the partial array on device `c`; of its residual; its gamma. -/
def parAt (c : Dev nD) (off : Fin 3 → Nat) (h : InP off) : Vec F S256x2048 .f32 := (parV off h).view.read (Elt F) (m ((c : Thread nD τ).loc main_arg0))
def resAt (c : Dev nD) (off : Fin 2 → Nat) (h : InR off) : Vec F S256x2048 .f32 := (resV off h).view.read (Elt F) (m ((c : Thread nD τ).loc main_arg1))
def gamAt (c : Dev nD) : Vec F S2048 .f32 := (win0_0.blk (0 : Fin 1)).view.read (Elt F) (m ((c : Thread nD τ).loc main_arg2))

/-- The first message of the reduce-scatter, -/
def rsMsg0 (d : Fin 2) (ch : Fin 4) (c : Dev nD) : Vec F S256x2048 .bf16 :=
  cutDown h4 (k0_pay1 (cutUp h4 (parAt m c (offSend c d ch) (offSend_in c d ch))))
/-- and the one made from the message of step `k`. -/
def rsNext (d : Fin 2) (ch : Fin 4) (k : Fin 3) (X : Dev nD → Vec F S256x2048 .bf16) (c : Dev nD) : Vec F S256x2048 .bf16 :=
  cutDown h4 (k0_pay5 (cutUp h4 (X (srcW c d))) (cutUp h4 (parAt m c (offRecv c d ch k) (offRecv_in c d ch k))))
def rsMsg (d : Fin 2) (ch : Fin 4) : Fin 3 → Dev nD → Vec F S256x2048 .bf16
  | 0 => rsMsg0 m d ch
  | 1 => rsNext m d ch 0 (rsMsg0 m d ch)
  | 2 => rsNext m d ch 1 (rsNext m d ch 0 (rsMsg0 m d ch))

/-- What the last reduce-scatter message adds to, as the kernel loads it. -/
abbrev sumUp (d : Fin 2) (ch : Fin 4) (c : Dev nD) : FVec F S256x2048 .f32 := k0_pay3 (cutUp h4 (rsMsg m d ch 2 (srcW c d)))
abbrev parUp (d : Fin 2) (ch : Fin 4) (c : Dev nD) : Vec F S1x1x256x2048 .f32 := cutUp h4 (parAt m c (offRecv c d ch 2) (offRecv_in c d ch 2))
abbrev resUp (d : Fin 2) (ch : Fin 4) (c : Dev nD) : Vec F S1x256x2048 .f32 := cutUp h3 (resAt m c (offOwn c d ch) (offOwn_in c d ch))

/-- The rows that the device finishes, -/
def ownOut (d : Fin 2) (ch : Fin 4) (c : Dev nD) : Vec F S256x2048 .f32 :=
  cutDown h4 (k0_pay10 (sumUp m d ch c) (parUp m d ch c) (resUp m d ch c) (gamAt m c))
/-- as the all-gather passes them on, -/
def agMsg0 (d : Fin 2) (ch : Fin 4) (c : Dev nD) : Vec F S256x2048 .bf16 :=
  cutDown h4 (k0_pay11 (k0_pay9 (sumUp m d ch c) (parUp m d ch c) (resUp m d ch c) (gamAt m c)))
def agMsg (d : Fin 2) (ch : Fin 4) : Fin 3 → Dev nD → Vec F S256x2048 .bf16
  | 0 => agMsg0 m d ch
  | 1 => fun c => agMsg0 m d ch (srcW c d)
  | 2 => fun c => agMsg0 m d ch (srcW (srcW c d) d)
/-- and the rows that all-gather step `k` brings. -/
def agOut (d : Fin 2) (ch : Fin 4) (k : Fin 3) (c : Dev nD) : Vec F S256x2048 .f32 :=
  cutDown h4 (k0_pay17 (cutUp h4 (agMsg m d ch k (srcW c d))))

/-- A channel's message from device `c` in chunk `ch`. -/
def msg (ch : Fin 4) : Chan → Dev nD → Vec F S256x2048 .bf16
  | (0, d, k) => rsMsg m d ch k
  | (1, d, k) => agMsg m d ch k

/-! ## The schedule -/

/-- The slots on device `c` that direction `d` writes in a phase, -/
def lot : Fin 2 → Fin 2 → Dev nD → sProp 𝕄
  | g, d, c => iprop(any c (dstV (g, d, 0)) ∗ any c (dstV (g, d, 1)) ∗ any c (dstV (g, d, 2)))
/-- and that their receive cells are at round `r`. -/
def ready (g d : Fin 2) (c : Dev nD) (r : ℕ) : sProp 𝕄 :=
  iprop(reached ER (rCell c (g, d, 0)) r ∗ reached ER (rCell c (g, d, 1)) r ∗ reached ER (rCell c (g, d, 2)) r)
/-- Both: what device `c` hands the one that will write them. -/
def grant (g d : Fin 2) (c : Dev nD) (r : ℕ) : sProp 𝕄 := iprop(lot g d c ∗ ready g d c r)

omit [FloatOps F] in
instance lot_storable (g d : Fin 2) (c : Dev nD) : BI.Storable (upEmb : UEmb _ 𝕄) (lot (F := F) g d c) := by unfold lot; infer_instance
omit [FloatOps F] in
instance ready_storable (g d : Fin 2) (c : Dev nD) (r : ℕ) : BI.Storable (upEmb : UEmb _ 𝕄) (ready (F := F) g d c r) := by unfold ready; infer_instance
omit [FloatOps F] in
instance ready_persistent (g d : Fin 2) (c : Dev nD) (r : ℕ) : BI.Persistent (ready (F := F) g d c r) := by unfold ready; infer_instance
omit [FloatOps F] in
instance grant_storable (g d : Fin 2) (c : Dev nD) (r : ℕ) : BI.Storable (upEmb : UEmb _ 𝕄) (grant (F := F) g d c r) := by unfold grant; infer_instance

/-- What a message hands over besides its data, received on `c` in round `r`: the first of the reduce-scatter the all-gather's
    slots of the other direction, the first of the all-gather the next chunk's reduce-scatter slots. -/
def extra (c : Dev nD) (r : ℕ) : Chan → sProp 𝕄
  | (0, d, 0) => grant 1 (opp d) (srcW c d) r
  | (1, d, 0) => if r < 3 then grant 0 (opp d) (srcW c d) (r + 1) else iprop(emp)
  | _ => iprop(emp)

omit [FloatOps F] in
instance extra_storable (c : Dev nD) (r : ℕ) (x : Chan) : BI.Storable (upEmb : UEmb _ 𝕄) (extra (F := F) c r x) := by
  unfold extra; split <;> (try split) <;> infer_instance

/-- The payload of a receive cell: the slot with its message, and what is handed over. -/
def recvPay (c : Dev nD) (x : Chan) (r : ℕ) : sProp 𝕄 := iprop(has c (dstV x) (msg m (Fin.ofNat 4 r) x (srcW c x.2.1)) ∗ extra c r x)
/-- The payload of a send cell: the source slot back. -/
def sendPay (c : Dev nD) (x : Chan) : sProp 𝕄 := any c (srcV x)

instance recvPay_storable (c : Dev nD) (x : Chan) (r : ℕ) : BI.Storable (upEmb : UEmb _ 𝕄) (recvPay m c x r) := by unfold recvPay; infer_instance
omit [FloatOps F] in
instance sendPay_storable (c : Dev nD) (x : Chan) : BI.Storable (upEmb : UEmb _ 𝕄) (sendPay (F := F) c x) := by unfold sendPay; infer_instance

abbrev IsBar (g : GSem nD τ sig) : Prop := g.1.2 = .tc ∧ g.2 = .reg barS.sem
abbrev IsS (s : SemLoc sig) : Prop := ∃ x : Chan, s = .dma (sS x)
abbrev IsR (s : SemLoc sig) : Prop := ∃ x : Chan, s = .dma (rS x)
abbrev IsX (g : GSem nD τ sig) : Prop := g.1.2 = .tc ∧ (IsS g.2 ∨ IsR g.2)

open Classical in
/-- The barrier cell has one round of two duties, one per direction, of one unit each, which hand over the first chunk's
    reduce-scatter slots; a channel's two cells have four rounds of one duty of a slot's credit. -/
def Rd : Rounds.Schedule (GSem nD τ sig) (Fin 2) 𝕄 where
  duties g r := if r = 0 ∧ IsBar g then Finset.univ else if r < 4 ∧ IsX g then {0} else ∅
  unitless _ := False
  amount g _ _ := if g.2 = .reg barS.sem then 1 else N
  payload g r d :=
    if g.2 = .reg barS.sem then grant 0 (opp d) (srcW g.1.1 d) 0
    else if h : IsS g.2 then sendPay g.1.1 h.choose
    else if h : IsR g.2 then recvPay m g.1.1 h.choose r
    else iprop(emp)
  amount_pos g _ _ _ := by
    by_cases h : g.2 = .reg barS.sem
    · rw [if_pos h]; exact Nat.one_pos
    · rw [if_neg h]; exact N_pos

open Classical in
instance Rd_storable (g : GSem nD τ sig) (r : ℕ) (d : Fin 2) : BI.Storable (upEmb : UEmb _ 𝕄) ((Rd m).payload g r d) := by
  show BI.Storable upEmb (if g.2 = .reg barS.sem then grant 0 (opp d) (srcW g.1.1 d) 0
    else if h : IsS g.2 then sendPay g.1.1 h.choose
    else if h : IsR g.2 then recvPay m g.1.1 h.choose r
    else iprop(emp))
  (repeat' split) <;> infer_instance

section Sched

variable (c : Dev nD) (x : Chan) (r : ℕ) (d : Fin 2)

theorem dma_ne_bar (q : DmaSem sig) : (SemLoc.dma q : SemLoc sig) ≠ .reg barS.sem := fun h => by cases h
theorem not_bar (q : DmaSem sig) : ¬ IsBar ((c : Thread nD τ), .dma q) := fun h => dma_ne_bar q h.2
theorem isS_choose (h : IsS (.dma (sS x) : SemLoc sig)) : h.choose = x := by
  have := h.choose_spec
  exact (sS_inj (SemLoc.dma.inj this)).symm
theorem not_isS : ¬ IsS (.dma (rS x) : SemLoc sig) := fun ⟨y, h⟩ => sS_ne_rS y x (SemLoc.dma.inj h).symm
theorem isR_choose (h : IsR (.dma (rS x) : SemLoc sig)) : h.choose = x := by
  have := h.choose_spec
  exact (rS_inj (SemLoc.dma.inj this)).symm

theorem duties_bar : (Rd m).duties (barCell c) 0 = Finset.univ := by dsimp only [Rd]; exact if_pos ⟨rfl, rfl, rfl⟩
theorem duties_s (hr : r < 4) : (Rd m).duties (sCell c x) r = {0} := by
  dsimp only [Rd]; rw [if_neg fun h => not_bar c _ h.2]; exact if_pos ⟨hr, rfl, .inl ⟨x, rfl⟩⟩
theorem duties_r (hr : r < 4) : (Rd m).duties (rCell c x) r = {0} := by
  dsimp only [Rd]; rw [if_neg fun h => not_bar c _ h.2]; exact if_pos ⟨hr, rfl, .inr ⟨x, rfl⟩⟩
theorem duties_bar_later : ∀ r, 1 ≤ r → (Rd m).duties (barCell c) r = ∅ := fun r hr => by
  dsimp only [Rd]
  rw [if_neg fun h => by omega, if_neg]
  rintro ⟨-, -, h | h⟩ <;> exact absurd h.choose_spec.symm (dma_ne_bar _)
theorem duties_x_later (q : DmaSem sig) : ∀ r, 4 ≤ r → (Rd m).duties ((c : Thread nD τ), .dma q) r = ∅ := fun r hr => by
  dsimp only [Rd]; rw [if_neg fun h => by omega, if_neg fun h => by omega]

theorem amount_bar : (Rd m).amount (barCell c) r d = 1 := by dsimp only [Rd]; exact if_pos rfl
theorem amount_s : (Rd m).amount (sCell c x) r d = N := by dsimp only [Rd]; exact if_neg (dma_ne_bar _)
theorem amount_r : (Rd m).amount (rCell c x) r d = N := by dsimp only [Rd]; exact if_neg (dma_ne_bar _)

theorem expect_bar : (Rd m).expect (barCell c) 0 = 2 := by
  unfold Schedule.expect Schedule.amountOf
  rw [duties_bar, Finset.sum_congr rfl fun d _ => amount_bar m c 0 d, Finset.sum_const, Finset.card_univ, Fintype.card_fin, smul_eq_mul]
theorem expect_s (hr : r < 4) : (Rd m).expect (sCell c x) r = N := by
  unfold Schedule.expect Schedule.amountOf; rw [duties_s m c x r hr, Finset.sum_singleton, amount_s]
theorem expect_r (hr : r < 4) : (Rd m).expect (rCell c x) r = N := by
  unfold Schedule.expect Schedule.amountOf; rw [duties_r m c x r hr, Finset.sum_singleton, amount_r]

theorem payload_bar : (Rd m).payload (barCell c) 0 d = grant 0 (opp d) (srcW c d) 0 := by dsimp only [Rd]; exact if_pos rfl
theorem payload_s : (Rd m).payload (sCell c x) r d = sendPay c x := by
  dsimp only [Rd]; rw [if_neg (dma_ne_bar _), dif_pos ⟨x, rfl⟩, isS_choose]
theorem payload_r : (Rd m).payload (rCell c x) r d = recvPay m c x r := by
  dsimp only [Rd]; rw [if_neg (dma_ne_bar _), dif_neg (not_isS x), dif_pos ⟨x, rfl⟩, isR_choose]

theorem rest_bar : bigSep ((Rd m).duties (barCell c) 0 \ ∅) (fun d => (Rd m).payload (barCell c) 0 d) = iprop(grant 0 1 (nbrW c 1) 0 ∗ grant 0 0 (nbrW c 0) 0) := by
  rw [Finset.sdiff_empty, duties_bar, bigSep_univ_eq_bigSepL [0, 1] (by decide) (by decide), bigSepL_cons_cons, bigSepL_singleton, payload_bar, payload_bar]
  rfl
theorem rest_s (hr : r < 4) : bigSep ((Rd m).duties (sCell c x) r \ ∅) (fun d => (Rd m).payload (sCell c x) r d) = sendPay c x := by
  rw [Finset.sdiff_empty, duties_s m c x r hr, bigSep_singleton, payload_s]
theorem rest_r (hr : r < 4) : bigSep ((Rd m).duties (rCell c x) r \ ∅) (fun d => (Rd m).payload (rCell c x) r d) = recvPay m c x r := by
  rw [Finset.sdiff_empty, duties_r m c x r hr, bigSep_singleton, payload_r]

end Sched

end Cert.Proof

end
-- ==== Proof.Moves.lean ====
/-
  The moves of a channel: a message sent, and a message arrived.
-/
module

public import proofs.«01_k».proof.Proof.Protocol

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

/-- From `P` the fragment `p` reaches `Q`. -/
def Spec (c : Dev nD) (P : sProp 𝕄) (p : KProg F PUnit) (Q : sProp 𝕄) : Prop :=
  ∀ {α : Type} (k : PUnit → KProg F α) (Φ : α → sProp 𝕄), P ⊢ iprop((Q -∗ WP c (k ⟨⟩) Φ) -∗ WP c (p >>= k) Φ)

theorem Spec.pure {c : Dev nD} {P Q : sProp 𝕄} (h : P ⊢ Q) : Spec c P (Pure.pure ⟨⟩) Q := fun k Φ => by
  simp only [Prog.pure_eq_ret, Prog.bind_ret]
  iintro H Hk
  iapply Hk
  iapply h; iexact H

variable (m : (ℓ : Loc nD τ sig) → Buf (Elt F) ℓ) (κ : GSem nD τ sig → ℕ)

/-- The invariants of every device's cells. -/
def invs : sProp 𝕄 := bigSep Finset.univ fun c : Dev nD => iprop(cellInv ER (Rd m) (κ (barCell c)) (barCell c)
  ∗ bigSep Finset.univ fun x : Chan => iprop(cellInv ER (Rd m) (κ (sCell c x)) (sCell c x) ∗ cellInv ER (Rd m) (κ (rCell c x)) (rCell c x)))

instance invs_persistent : BI.Persistent (invs m κ) := by unfold invs; infer_instance

theorem invs_bar (c : Dev nD) : invs m κ ⊢ cellInv ER (Rd m) (κ (barCell c)) (barCell c) :=
  BIBase.Entails.trans (BI.bigSep_elim (Finset.mem_univ c)) sep_elim_left
theorem invs_chan (c : Dev nD) (x : Chan) : invs m κ ⊢ iprop(cellInv ER (Rd m) (κ (sCell c x)) (sCell c x) ∗ cellInv ER (Rd m) (κ (rCell c x)) (rCell c x)) :=
  BIBase.Entails.trans (BI.bigSep_elim (Finset.mem_univ c)) (BIBase.Entails.trans sep_elim_right (BI.bigSep_elim (Finset.mem_univ x)))
theorem invs_s (c : Dev nD) (x : Chan) : invs m κ ⊢ cellInv ER (Rd m) (κ (sCell c x)) (sCell c x) := (invs_chan m κ c x).trans sep_elim_left
theorem invs_r (c : Dev nD) (x : Chan) : invs m κ ⊢ cellInv ER (Rd m) (κ (rCell c x)) (rCell c x) := (invs_chan m κ c x).trans sep_elim_right

/-- What a device knows throughout. -/
def ctx : sProp 𝕄 := iprop(invs m κ ∗ levAts L lv)
instance ctx_persistent : BI.Persistent (ctx m κ) := by unfold ctx; infer_instance
theorem ctx_invs : ctx m κ ⊢ invs m κ := sep_elim_left
theorem ctx_lev : ctx m κ ⊢ levAts L lv := sep_elim_right

/-! ## A channel's state -/

section Chan

variable (c : Dev nD) (x : Chan) (r : ℕ)

/-- Nothing under way before round `r`. -/
def idle : sProp 𝕄 := iprop(atPos ER (sCell c x) r ∅ 0 ∗ atPos ER (rCell c x) r ∅ 0 ∗ reached ER (sCell c x) r ∗ reached ER (rCell c x) r)
/-- The right to send in round `r` and to be sent to. -/
def right : sProp 𝕄 := iprop(dutyTok ER (sCell c x) r 0 ∗ dutyTok ER (rCell (nbrW c x.2.1) x) r 0 ∗ cred (tallyAt (rCell c x) r N))
/-- The message of round `r` sent, its counterpart not yet arrived. -/
def gone : sProp 𝕄 := iprop(atPos ER (sCell c x) r ∅ 0 ∗ atPos ER (rCell c x) r ∅ 0 ∗ cred (tallyAt (sCell c x) 0 N) ∗ cred (tallyAt (rCell c x) r N))

theorem idle_reached : idle (F := F) c x r ⊢ iprop(idle c x r ∗ reached ER (rCell c x) r) := by
  unfold idle
  iintro ⟨H1, H2, #H3, #H4⟩
  isplitl
  · isplitl [H1]; · iexact H1
    isplitl [H2]; · iexact H2
    isplitr; · iexact H3
    iexact H4
  iexact H4

end Chan

/-- What is owed for one message. -/
abbrev due (c : Dev nD) (x : Chan) (r : ℕ) : CellTallies nD τ sig ℕ := tallyAt (rCell (nbrW c x.2.1) x) r N

theorem Above.add {n : ℕ} {O O' : CellTallies nD τ sig ℕ} (h : Above n O) (h' : Above n O') : Above n (O + O') := fun g i hp => by
  rcases Nat.add_pos_iff_pos_or_pos.mp (show 0 < O g i + O' g i from hp) with hp | hp
  · exact h g i hp
  · exact h' g i hp

theorem Above.due (c : Dev nD) (x : Chan) {r : ℕ} (hr : r < 4) {n : ℕ} (hn : n < lev x r) : Above n (due c x r) := fun g i hp => by
  rcases Classical.em (g = rCell (nbrW c x.2.1) x ∧ i = r) with ⟨rfl, rfl⟩ | hne
  · exact ⟨by rw [L_tc]; exact Finset.mem_range.mpr hr, by rw [lv_rCell]; exact hn⟩
  · exfalso
    unfold Cert.Proof.due tallyAt tallyOn at hp
    rw [Pi.single_apply] at hp
    split at hp
    · rename_i hg
      rw [Finsupp.single_apply] at hp
      split at hp
      · rename_i hi; exact hne ⟨hg, hi.symm⟩
      · exact absurd hp (lt_irrefl _)
    · exact absurd hp (lt_irrefl _)

/-- The payment of a copy. -/
theorem send_pay (c : Dev nD) (x : Chan) (ch : Fin 4) (f : (srcV x).view.ty.Contents (Elt F)) :
    iprop(((srcV x).view.loc (c : Thread nD τ)) ↦[(srcV x).view.set]{fullShare} f) ⊢ (Rd m).payload (sCell c x) ch.val 0 := by
  rw [payload_s]; unfold sendPay any has owns
  iintro H
  iexists _, f
  isplitr; · ipureintro; rfl
  iexact H

theorem recv_pay (c n : Dev nD) (x : Chan) (ch : Fin 4) (hn : srcW n x.2.1 = c) (f : (srcV x).view.ty.Contents (Elt F)) (g : (dstV x).view.ty.Contents (Elt F))
    (hf : (srcV x).view.read (Elt F) f = msg m ch x c) :
    iprop((((dstV x).view.loc (n : Thread nD τ)) ↦[(dstV x).view.set]{fullShare} (dstV x).view.write (Elt F) g ((srcV x).view.read (Elt F) f) Finset.univ) ∗ extra n ch.val x)
      ⊢ (Rd m).payload (rCell n x) ch.val 0 := by
  rw [payload_r]; unfold recvPay has owns
  iintro ⟨H, He⟩
  isplitl [H]
  · iexists _
    isplitr
    swap; · iexact H
    ipureintro
    rw [View.read_write_univ, hf, hn]
    congr 1
    exact Fin.ext (Nat.mod_eq_of_lt ch.isLt).symm
  iexact He

/-- A message sent. -/
theorem wp_send (c : Dev nD) (x : Chan) (ch : Fin 4) {O₀ : CellTallies nD τ sig ℕ} (O : CellTallies nD τ sig ℕ) (hO : O₀ = O + due c x ch.val)
    {hsc : (dstV x : Memref sig (Dev.tc (nbrW c x.2.1) : Thread nD τ).2.kind .vmem S256x2048 .bf16).view.ref.isScScratch = false}
    {hsrc : (srcV x).view.WordExact} {hdst : (dstV x).view.WordExact}
    {hsem : DmaTarget.Typed .vmem (.dma (rS x)) (.remote (Dev.tc (nbrW c x.2.1) : Thread nD τ) (dstV x) (.dma (sS x)) hsc)}
    {α : Type} {Q : α → sProp 𝕄} {k : PUnit → KProg F α} :
    iprop(ctx m κ ∗ has c (srcV x) (msg m ch x c) ∗ any (nbrW c x.2.1) (dstV x) ∗ reached ER (rCell (nbrW c x.2.1) x) ch.val ∗ extra (nbrW c x.2.1) ch.val x
        ∗ idle c x ch.val ∗ right c x ch.val ∗ ow c O₀)
      ⊢ iprop(((gone c x ch.val ∗ ow c O) -∗ WP c (k ⟨⟩) Q)
          -∗ WP c (.op (.enqueueDma (srcV x) (.remote (Dev.tc (nbrW c x.2.1) : Thread nD τ) (dstV x) (.dma (sS x)) hsc) (.dma (rS x)) hsrc hdst hsem) k) Q) := by
  have hN : (dstV x).view.amount (.dma (rS x)) = N := dst_credit x
  have hr : τ.routes (c : Thread nD τ) (nbrW c x.2.1 : Thread nD τ) = true := by routes
  have rule := fun f g W hf => Rounds.wp_send_pointsTo_with (c' := (nbrW c x.2.1 : Thread nD τ)) (hsrc := hsrc) (hdst := hdst) (hsem := hsem) (hsc := hsc)
    (k := k) (Q := Q) (q := fullShare) (W := W) (Es := Set.univ) (defs := defs₀ (F := F)) (Γ := .empty) 𝒱₀ ER (Rd m) (c : Thread nD τ) none (κ₁ := κ (sCell c x)) (κ₂ := κ (rCell (nbrW c x.2.1) x))
    (r₁ := ch.val) (r₂ := ch.val) (d₁ := 0) (d₂ := 0) (fs := f) (fd := g) (F := extra (nbrW c x.2.1) ch.val x)
    (by rw [duties_s m c x _ ch.isLt]; exact Finset.mem_singleton_self _) (by rw [duties_r m _ x _ ch.isLt]; exact Finset.mem_singleton_self _)
    ch.val 0 N hN (amount_s m c x _ 0) (amount_r m _ x _ 0) O hO
    (send_pay m c x ch f) (recv_pay m c (nbrW c x.2.1) x ch (nbr_opp c x.2.1) f g hf) (hr := hr)
  unfold ctx any has owns idle right gone
  iintro ⟨⟨#Hinv, #Hlev⟩, ⟨%f, %hf, Hs⟩, ⟨%Y, %g, %hg, Hd⟩, #Hrd, He, ⟨Hps, Hpr, #Hrs, #Hrr⟩, ⟨Hts, Htr, Hcr⟩, ⟨%W, HO⟩⟩ Hk
  iapply (rule f g W hf) $$ [Hs Hd He Hts Htr HO]
  · isplitr; · iapply (invs_s m κ c x); iexact Hinv
    isplitr; · iapply (invs_r m κ (nbrW c x.2.1) x); iexact Hinv
    isplitl [Hs]; · iexact Hs
    isplitl [Hd He]
    · isplitl [Hd]; · iexact Hd
      iexact He
    isplitl [HO]; · iexact HO
    isplitl [Hts]; · iexact Hts
    isplitr; · iexact Hrs
    isplitl [Htr]; · iexact Htr
    iexact Hrd
  iintro ⟨Hc, HO⟩
  iapply Hk
  isplitr [HO]
  · isplitl [Hps]; · iexact Hps
    isplitl [Hpr]; · iexact Hpr
    isplitl [Hc]; · iexact Hc
    iexact Hcr
  iexists W; iexact HO

/-- A message arrived, and the own one gone: the two waits of a step. -/
theorem wp_arrive (c : Dev nD) (x : Chan) (ch : Fin 4) {O : CellTallies nD τ sig ℕ} (hO : Above (lev x ch.val) O)
    {sp₁ sp₂ : Space} {s₁ s₂ : Shape} {e₁ e₂ : EltTy} {src₁ : Memref sig .tc sp₁ s₁ e₁} {src₂ : Memref sig .tc sp₂ s₂ e₂}
    {h₁ : src₁.view.WordExact} {h₁' : (srcV x).view.WordExact} {h₂ : src₂.view.WordExact} {h₂' : (dstV x).view.WordExact}
    {α : Type} {Q : α → sProp 𝕄} {k : PUnit → KProg F α} :
    iprop(ctx m κ ∗ gone c x ch.val ∗ ow c O)
      ⊢ iprop(((idle c x (ch.val + 1) ∗ any c (srcV x) ∗ has c (dstV x) (msg m ch x (srcW c x.2.1)) ∗ extra c ch.val x ∗ ow c O) -∗ WP c (k ⟨⟩) Q)
          -∗ WP c (.op (.waitDma2 (sS x) src₁ (srcV x) h₁ h₁') fun _ => .op (.waitDma2 (rS x) src₂ (dstV x) h₂ h₂') k) Q) := by
  unfold ctx gone idle
  iintro ⟨⟨#Hinv, #Hlev⟩, ⟨Hps, Hpr, Hcs, Hcr⟩, ⟨%W, HO⟩⟩ Hk
  iapply (Rounds.wp_wait_rest_token 𝒱₀ ER (Rd m) (c : Thread nD τ) none (κ := κ (sCell c x)) (wpE_waitDma2_eq 𝒱₀ (c : Thread nD τ) none Set.univ) (Set.mem_univ _) 0
    (O := O) (W := W) (R := ch.val) (m := 0) (T := ∅) ((Nat.zero_add _).trans ((src_credit x).trans (expect_s m c x _ ch.isLt).symm))) $$ [Hps Hcs HO]
  · isplitr; · iapply (invs_s m κ c x); iexact Hinv
    isplitl [Hcs]; · rw [src_credit x]; iexact Hcs
    isplitl [HO]; · iexact HO
    isplitr
    · iapply (mayWait c (.dma (sS x)) 0 (by decide) (hO.le ((lv_sCell c x 0).le.trans (Nat.zero_le _)))); iexact Hlev
    iexact Hps
  rw [rest_s m c x _ ch.isLt]
  iintro ⟨HO, Hps, #Hrs, Hsrc⟩
  iapply (Rounds.wp_wait_rest_token 𝒱₀ ER (Rd m) (c : Thread nD τ) none (κ := κ (rCell c x)) (wpE_waitDma2_eq 𝒱₀ (c : Thread nD τ) none Set.univ) (Set.mem_univ _) ch.val
    (O := O) (W := insert (.dma (sS x), 0) W) (R := ch.val) (m := 0) (T := ∅) ((Nat.zero_add _).trans ((dst_credit x).trans (expect_r m c x _ ch.isLt).symm))) $$ [Hpr Hcr HO]
  · isplitr; · iapply (invs_r m κ c x); iexact Hinv
    isplitl [Hcr]; · rw [dst_credit x]; iexact Hcr
    isplitl [HO]; · iexact HO
    isplitr
    · iapply (mayWait c (.dma (rS x)) ch.val ch.isLt (hO.le (lv_rCell c x ch.val).le)); iexact Hlev
    iexact Hpr
  rw [rest_r m c x _ ch.isLt]
  iintro ⟨HO, Hpr, #Hrr, Hin⟩
  unfold recvPay sendPay
  icases Hin with ⟨Hdst, He⟩
  iapply Hk
  isplitl [Hps Hpr]
  · isplitl [Hps]; · iexact Hps
    isplitl [Hpr]; · iexact Hpr
    isplitr; · iexact Hrs
    iexact Hrr
  isplitl [Hsrc]; · iexact Hsrc
  isplitl [Hdst]
  · rw [show Fin.ofNat 4 ch.val = ch from Fin.ext (Nat.mod_eq_of_lt ch.isLt)]; iexact Hdst
  isplitl [He]; · iexact He
  iexists _; iexact HO

end Cert.Proof

end
-- ==== Proof.Steps.lean ====
/-
  What the body's operations and fragments do to the buffers a device holds.
-/
module

public import proofs.«01_k».proof.Proof.Moves
public import Idealize.ShloMosaic.Lib.MemrefSat

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (κ : GSem nD τ sig → ℕ)

/-! ## The staging slots and their copies -/

/-- Half of a share. -/
def halfOf (q : PosShare TreeShare) : Fin 2 → PosShare TreeShare | 0 => q.left | 1 => q.right
/-- The partial array's share that staging slot `(d, s)` copies from, the residual's that slot `d` does. -/
abbrev pq (d s : Fin 2) : PosShare TreeShare := halfOf (halfOf fullShare d) s
abbrev rq (d : Fin 2) : PosShare TreeShare := halfOf fullShare d

/-- The partial array, whole, at a share; the residual. -/
abbrev parts (c : Dev nD) (q : PosShare TreeShare) : sProp 𝕄 := ((c : Thread nD τ).loc main_arg0) ↦{q} m ((c : Thread nD τ).loc main_arg0)
abbrev resid (c : Dev nD) (q : PosShare TreeShare) : sProp 𝕄 := ((c : Thread nD τ).loc main_arg1) ↦{q} m ((c : Thread nD τ).loc main_arg1)

/-- The credit of a staged block's copy. -/
@[irreducible] def NP : ℕ := (pstV 0 0).view.dmaCredit
theorem NP_pos : 0 < NP := by unfold NP; exact View.dmaCredit_pos _ (by decide)
theorem pst_credit (d s : Fin 2) : (pstV d s).view.dmaCredit = NP := by unfold NP; rfl
theorem rst_credit (d : Fin 2) : (rstV d).view.dmaCredit = NP := by unfold NP; rfl
theorem out_credit (off : Fin 2 → Nat) (h : InR off) : (outV off h).view.dmaCredit = NP := by unfold NP; rfl

section States

variable (c : Dev nD) (d s : Fin 2)

/-- Staging slot `(d, s)` of the partial sums: empty, with `X` in it, with a block's copy under way. -/
def pidle : sProp 𝕄 := iprop(parts m c (pq d s) ∗ any c (pstV d s) ∗ semVal ((c : Thread nD τ), .dma (pstS d s).sem) 0)
def phave (X : Vec F S256x2048 .f32) : sProp 𝕄 := iprop(parts m c (pq d s) ∗ has c (pstV d s) X ∗ semVal ((c : Thread nD τ), .dma (pstS d s).sem) 0)
def pfly (off : Fin 3 → Nat) (h : InP off) : sProp 𝕄 :=
  iprop(fly c (pstS d s).sem NP iprop((((c : Thread nD τ).loc main_arg0) ↦[(parV off h).view.set]{pq d s} m ((c : Thread nD τ).loc main_arg0)) ∗ has c (pstV d s) (parAt m c off h))
    ∗ (((c : Thread nD τ).loc main_arg0) ↦[Finset.univ \ (parV off h).view.set]{pq d s} m ((c : Thread nD τ).loc main_arg0)))

/-- The same of the residual's slot. -/
def ridle : sProp 𝕄 := iprop(resid m c (rq d) ∗ any c (rstV d) ∗ semVal ((c : Thread nD τ), .dma (rstS d).sem) 0)
def rhave (X : Vec F S256x2048 .f32) : sProp 𝕄 := iprop(resid m c (rq d) ∗ has c (rstV d) X ∗ semVal ((c : Thread nD τ), .dma (rstS d).sem) 0)
def rfly (off : Fin 2 → Nat) (h : InR off) : sProp 𝕄 :=
  iprop(fly c (rstS d).sem NP iprop((((c : Thread nD τ).loc main_arg1) ↦[(resV off h).view.set]{rq d} m ((c : Thread nD τ).loc main_arg1)) ∗ has c (rstV d) (resAt m c off h))
    ∗ (((c : Thread nD τ).loc main_arg1) ↦[Finset.univ \ (resV off h).view.set]{rq d} m ((c : Thread nD τ).loc main_arg1)))

/-- An output slot: empty; with its copy to the rows at `off` under way. -/
def oidle : sProp 𝕄 := iprop(any c (ostV d s) ∗ semVal ((c : Thread nD τ), .dma (ostS d s).sem) 0)
def ofly (off : Fin 2 → Nat) (h : InR off) (X : Vec F S256x2048 .f32) : sProp 𝕄 :=
  fly c (ostS d s).sem NP iprop(has c (ostV d s) X ∗ has c (outV off h) X)

end States

/-- Issue a local copy out of elements held at known contents. -/
theorem wp_copyOf {sp sp' : Space} {s : Shape} {e : EltTy} (c : Dev nD) {src : Memref sig .tc sp s e} {dst : Memref sig .tc sp' s e} {sm : DmaSem sig} {q : PosShare TreeShare}
    (f : src.view.ty.Contents (Elt F))
    {hsrc : src.view.WordExact} {hdst : dst.view.WordExact} {hsem : DmaTarget.Typed (nD := nD) (τ := τ) (p := .tc) sp (.dma sm) (.here dst)} {α : Type} {k : PUnit → KProg F α} {Q : α → sProp 𝕄}
    (N : ℕ) (hN : dst.view.dmaCredit = N) (hN0 : 0 < N) :
    iprop(((src.view.loc (c : Thread nD τ)) ↦[src.view.set]{q} f) ∗ any c dst ∗ semVal ((c : Thread nD τ), .dma sm) 0)
      ⊢ iprop((fly c sm N iprop(((src.view.loc (c : Thread nD τ)) ↦[src.view.set]{q} f) ∗ has c dst (src.view.read (Elt F) f)) -∗ WP c (k ⟨⟩) Q)
          -∗ WP c (.op (.enqueueDma src (.here dst) (.dma sm) hsrc hdst hsem) k) Q) := by
  unfold any has owns
  iintro ⟨Hs, ⟨%Y, %g, %hg, Hd⟩, Hv⟩ Hk
  iapply (wp_dmaLocal EC 𝒱₀ (c : Thread nD τ) none (sm := .dma sm) 0 N hN hN0 (Sd := dst.view.set) subset_rfl) $$ [Hs Hd Hv]
  · isplitl [Hs]; · iexact Hs
    isplitl [Hd]; · iexact Hd
    iexact Hv
  iintro Hf
  iapply Hk
  iapply (Flight_mono EC (c : Thread nD τ) ?_) $$ Hf
  iintro ⟨Hd, Hs⟩
  isplitl [Hs]; · iexact Hs
  iexists _
  isplitr
  swap; · iexact Hd
  ipureintro
  rw [View.read_write_univ]

section Ops

variable (c : Dev nD) (d s : Fin 2) {O : CellTallies nD τ sig ℕ}

theorem startP_spec (off : Fin 3 → Nat) (h : InP off) : Spec c (pidle m c d s) (startP d s off h) (pfly m c d s off h) := fun k Φ => by
  unfold startP pidle pfly
  simp only [Prog.lift, Prog.bind_op, Prog.bind_ret]
  iintro ⟨Hp, Hd, Hv⟩ Hk
  ihave Hp' := (pointsTo_split_subset (Finset.subset_univ (parV off h).view.set)).1 $$ Hp
  icases Hp' with ⟨Hs, Hrest⟩
  iapply (wp_copyOf c (src := parV off h) (dst := pstV d s) (m ((c : Thread nD τ).loc main_arg0)) NP (pst_credit d s) NP_pos) $$ [Hs Hd Hv]
  · isplitl [Hs]; · iexact Hs
    isplitl [Hd]; · iexact Hd
    iexact Hv
  iintro Hf
  iapply Hk
  isplitl [Hf]; · iexact Hf
  iexact Hrest

theorem waitP_spec (hO : Above 0 O) (off : Fin 3 → Nat) (h : InP off) :
    Spec c iprop(ctx m κ ∗ pfly m c d s off h ∗ ow c O) (waitP d s off h) iprop(phave m c d s (parAt m c off h) ∗ ow c O) := fun k Φ => by
  unfold waitP pfly phave ctx
  simp only [Prog.lift, Prog.bind_op, Prog.bind_ret]
  iintro ⟨⟨-, #Hlev⟩, ⟨Hf, Hrest⟩, HO⟩ Hk
  iapply (wp_copyWait c NP (pst_credit d s) (by revert d s; decide) hO) $$ [Hf HO]
  · isplitr; · iexact Hlev
    isplitl [Hf]; · iexact Hf
    iexact HO
  iintro ⟨⟨Hs, Hd⟩, Hv, HO⟩
  iapply Hk
  isplitr [HO]
  · isplitl [Hs Hrest]
    · iapply (pointsTo_split_subset (Finset.subset_univ (parV off h).view.set)).2
      isplitl [Hs]; · iexact Hs
      iexact Hrest
    isplitl [Hd]; · iexact Hd
    iexact Hv
  iexact HO

theorem startR_spec (off : Fin 2 → Nat) (h : InR off) : Spec c (ridle m c d) (startR d off h) (rfly m c d off h) := fun k Φ => by
  unfold startR ridle rfly
  simp only [Prog.lift, Prog.bind_op, Prog.bind_ret]
  iintro ⟨Hp, Hd, Hv⟩ Hk
  ihave Hp' := (pointsTo_split_subset (Finset.subset_univ (resV off h).view.set)).1 $$ Hp
  icases Hp' with ⟨Hs, Hrest⟩
  iapply (wp_copyOf c (src := resV off h) (dst := rstV d) (m ((c : Thread nD τ).loc main_arg1)) NP (rst_credit d) NP_pos) $$ [Hs Hd Hv]
  · isplitl [Hs]; · iexact Hs
    isplitl [Hd]; · iexact Hd
    iexact Hv
  iintro Hf
  iapply Hk
  isplitl [Hf]; · iexact Hf
  iexact Hrest

theorem waitR_spec (hO : Above 0 O) (off : Fin 2 → Nat) (h : InR off) :
    Spec c iprop(ctx m κ ∗ rfly m c d off h ∗ ow c O) (waitR d off h) iprop(rhave m c d (resAt m c off h) ∗ ow c O) := fun k Φ => by
  unfold waitR rfly rhave ctx
  simp only [Prog.lift, Prog.bind_op, Prog.bind_ret]
  iintro ⟨⟨-, #Hlev⟩, ⟨Hf, Hrest⟩, HO⟩ Hk
  iapply (wp_copyWait c NP (rst_credit d) (by revert d; decide) hO) $$ [Hf HO]
  · isplitr; · iexact Hlev
    isplitl [Hf]; · iexact Hf
    iexact HO
  iintro ⟨⟨Hs, Hd⟩, Hv, HO⟩
  iapply Hk
  isplitr [HO]
  · isplitl [Hs Hrest]
    · iapply (pointsTo_split_subset (Finset.subset_univ (resV off h).view.set)).2
      isplitl [Hs]; · iexact Hs
      iexact Hrest
    isplitl [Hd]; · iexact Hd
    iexact Hv
  iexact HO

theorem startO_spec (off : Fin 2 → Nat) (h : InR off) (X : Vec F S256x2048 .f32) :
    Spec c iprop(has c (ostV d s) X ∗ semVal ((c : Thread nD τ), .dma (ostS d s).sem) 0 ∗ any c (outV off h)) (startO d s off h) (ofly c d s off h X) := fun k Φ => by
  unfold startO ofly
  simp only [Prog.lift, Prog.bind_op, Prog.bind_ret]
  iintro ⟨Hs, Hv, Hd⟩ Hk
  iapply (wp_copy c (src := ostV d s) (dst := outV off h) NP (out_credit off h) NP_pos) $$ [Hs Hd Hv]
  · isplitl [Hs]; · iexact Hs
    isplitl [Hd]; · iexact Hd
    iexact Hv
  iexact Hk

theorem waitO_spec (hO : Above 0 O) (off : Fin 2 → Nat) (h : InR off) (X : Vec F S256x2048 .f32) :
    Spec c iprop(ctx m κ ∗ ofly c d s off h X ∗ ow c O) (waitO d s off h) iprop(oidle c d s ∗ has c (outV off h) X ∗ ow c O) := fun k Φ => by
  unfold waitO ofly oidle ctx
  simp only [Prog.lift, Prog.bind_op, Prog.bind_ret]
  iintro ⟨⟨-, #Hlev⟩, Hf, HO⟩ Hk
  iapply (wp_copyWait c NP (out_credit off h) (by revert d s; decide) hO) $$ [Hf HO]
  · isplitr; · iexact Hlev
    isplitl [Hf]; · iexact Hf
    iexact HO
  iintro ⟨⟨Hs, Hd⟩, Hv, HO⟩
  iapply Hk
  isplitl [Hs Hv]
  · isplitl [Hs]; · iexists _; iexact Hs
    iexact Hv
  isplitl [Hd]; · iexact Hd
  iexact HO

theorem wp_loadP {α : Type} {X : Vec F S256x2048 .f32} {k : Vec F S1x1x256x2048 .f32 → KProg F α} {Φ : α → sProp 𝕄} :
    has c (pstV d s) X ⊢ iprop((has c (pstV d s) X -∗ WP c (k (cutUp h4 X)) Φ) -∗ WP c (loadP d s >>= k) Φ) := by
  unfold loadP; simp only [Prog.lift, Prog.bind_op, Prog.bind_ret]
  exact wp_loadSlot c pstM (r22 d s) _ squeezes_S1x1x256x2048_S256x2048
theorem wp_loadS {α : Type} {X : Vec F S256x2048 .bf16} {k : Vec F S1x1x256x2048 .bf16 → KProg F α} {Φ : α → sProp 𝕄} :
    has c (sendV d s) X ⊢ iprop((has c (sendV d s) X -∗ WP c (k (cutUp h4 X)) Φ) -∗ WP c (loadS d s >>= k) Φ) := by
  unfold loadS; simp only [Prog.lift, Prog.bind_op, Prog.bind_ret]
  exact wp_loadSlot c sendM (r22 d s) _ squeezes_S1x1x256x2048_S256x2048
theorem wp_loadO {α : Type} {X : Vec F S256x2048 .f32} {k : Vec F S1x1x256x2048 .f32 → KProg F α} {Φ : α → sProp 𝕄} :
    has c (ostV d s) X ⊢ iprop((has c (ostV d s) X -∗ WP c (k (cutUp h4 X)) Φ) -∗ WP c (loadO d s >>= k) Φ) := by
  unfold loadO; simp only [Prog.lift, Prog.bind_op, Prog.bind_ret]
  exact wp_loadSlot c ostM (r22 d s) _ squeezes_S1x1x256x2048_S256x2048
theorem wp_loadV (i : Fin 3) {α : Type} {X : Vec F S256x2048 .bf16} {k : Vec F S1x1x256x2048 .bf16 → KProg F α} {Φ : α → sProp 𝕄} :
    has c (recvV d i) X ⊢ iprop((has c (recvV d i) X -∗ WP c (k (cutUp h4 X)) Φ) -∗ WP c (loadV d i >>= k) Φ) := by
  unfold loadV; simp only [Prog.lift, Prog.bind_op, Prog.bind_ret]
  exact wp_loadSlot c recvM (r23 d i) _ squeezes_S1x1x256x2048_S256x2048
theorem wp_loadA (i : Fin 4) {α : Type} {X : Vec F S256x2048 .bf16} {k : Vec F S1x1x256x2048 .bf16 → KProg F α} {Φ : α → sProp 𝕄} :
    has c (agV d i) X ⊢ iprop((has c (agV d i) X -∗ WP c (k (cutUp h4 X)) Φ) -∗ WP c (loadA d i >>= k) Φ) := by
  unfold loadA; simp only [Prog.lift, Prog.bind_op, Prog.bind_ret]
  exact wp_loadSlot c agM (r24 d i) _ squeezes_S1x1x256x2048_S256x2048
theorem wp_loadR {α : Type} {X : Vec F S256x2048 .f32} {k : Vec F S1x256x2048 .f32 → KProg F α} {Φ : α → sProp 𝕄} :
    has c (rstV d) X ⊢ iprop((has c (rstV d) X -∗ WP c (k (cutUp h3 X)) Φ) -∗ WP c (loadR d >>= k) Φ) := by
  unfold loadR; simp only [Prog.lift, Prog.bind_op, Prog.bind_ret]
  exact wp_loadSlot c rstM (r2 d) _ squeezes_S1x256x2048_S256x2048
theorem wp_loadG {α : Type} {X : Vec F S2048 .f32} {k : Vec F S2048 .f32 → KProg F α} {Φ : α → sProp 𝕄} :
    has c gamM X ⊢ iprop((has c gamM X -∗ WP c (k X) Φ) -∗ WP c (loadG >>= k) Φ) := by
  unfold loadG; simp only [Prog.lift, Prog.bind_op, Prog.bind_ret]
  unfold has owns
  iintro ⟨%f, %hf, H⟩ Hk
  iapply (wp_load_rect 𝒱₀ (c : Thread nD τ) none Set.univ (m := gamM) (r := Rect.unit (s := S2048) ![0] S2048.size inb_S2048_S2048_0) (S := gamM.view.set) (View.set_slice_subset _ _)) $$ H
  iintro H
  have e : (gamM.access (Rect.unit (s := S2048) ![0] S2048.size inb_S2048_S2048_0)).read (Elt F) f = X := by
    rw [← hf]
    exact Memref.readAt_unit_zero (Elt F) cc0_stg0_0 (by decide) inb_S2048_S2048_0 f
  rw [e]
  iapply Hk
  iexists f
  isplitr; · ipureintro; exact hf
  iexact H

theorem storeS_spec (v : Vec F S1x1x256x2048 .bf16) : Spec c (any c (sendV d s)) (storeS d s v) (has c (sendV d s) (cutDown h4 v)) := fun k Φ => by
  unfold storeS; simp only [Prog.lift, Prog.bind_op, Prog.bind_ret]
  exact wp_storeSlot c sendM (r22 d s) _ squeezes_S1x1x256x2048_S256x2048
theorem storeO_spec (v : Vec F S1x1x256x2048 .f32) : Spec c (any c (ostV d s)) (storeO d s v) (has c (ostV d s) (cutDown h4 v)) := fun k Φ => by
  unfold storeO; simp only [Prog.lift, Prog.bind_op, Prog.bind_ret]
  exact wp_storeSlot c ostM (r22 d s) _ squeezes_S1x1x256x2048_S256x2048
theorem storeA_spec (v : Vec F S1x1x256x2048 .bf16) : Spec c (any c (agV d 0)) (storeA d v) (has c (agV d 0) (cutDown h4 v)) := fun k Φ => by
  unfold storeA; simp only [Prog.lift, Prog.bind_op, Prog.bind_ret]
  exact wp_storeSlot c agM (r24 d 0) _ squeezes_S1x1x256x2048_S256x2048

end Ops

end Cert.Proof

end
-- ==== Proof.Fragments.lean ====
/-
  The fragments of a chunk: what each one takes and leaves.
-/
module

public import proofs.«01_k».proof.Proof.Steps

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (κ : GSem nD τ sig → ℕ)

variable (c : Dev nD) (d : Fin 2) (ch : Fin 4)

/-! ## The messages -/

/-- What sending on channel `x` takes. -/
def sendPre (x : Chan) (O₀ : CellTallies nD τ sig ℕ) : sProp 𝕄 :=
  iprop(ctx m κ ∗ has c (srcV x) (msg m ch x c) ∗ any (nbrW c x.2.1) (dstV x) ∗ reached ER (rCell (nbrW c x.2.1) x) ch.val ∗ extra (nbrW c x.2.1) ch.val x
    ∗ idle c x ch.val ∗ right c x ch.val ∗ ow c O₀)
theorem rsStart_spec (k : Fin 3) (O : CellTallies nD τ sig ℕ) :
    Spec c (sendPre m κ c ch (0, d, k) (O + due c (0, d, k) ch.val)) (rsStart (nbrW c d) d k) iprop(gone c (0, d, k) ch.val ∗ ow c O) := fun kk Φ => by
  unfold rsStart sendPre; simp only [Prog.lift, Prog.bind_op, Prog.bind_ret]
  exact wp_send m κ c (0, d, k) ch O rfl
theorem agStart_spec (k : Fin 3) (O : CellTallies nD τ sig ℕ) :
    Spec c (sendPre m κ c ch (1, d, k) (O + due c (1, d, k) ch.val)) (agStart (nbrW c d) d k) iprop(gone c (1, d, k) ch.val ∗ ow c O) := fun kk Φ => by
  unfold agStart sendPre; simp only [Prog.lift, Prog.bind_op, Prog.bind_ret]
  exact wp_send m κ c (1, d, k) ch O rfl

theorem rsArrive {O : CellTallies nD τ sig ℕ} (k : Fin 3) (hO : Above (lev (0, d, k) ch.val) O) {α : Type} {kk : PUnit → KProg F α} {Φ : α → sProp 𝕄} :
    iprop(ctx m κ ∗ gone c (0, d, k) ch.val ∗ ow c O)
      ⊢ iprop(((idle c (0, d, k) (ch.val + 1) ∗ any c (sendV d (srcSlot k)) ∗ has c (recvV d k) (rsMsg m d ch k (srcW c d)) ∗ extra c ch.val (0, d, k) ∗ ow c O) -∗ WP c (kk ⟨⟩) Φ) -∗ WP c (rsWaitS d k >>= fun _ => rsWaitR d k >>= kk) Φ) := by
  unfold rsWaitS rsWaitR; simp only [Prog.lift, Prog.bind_op, Prog.bind_ret]
  exact wp_arrive m κ c (0, d, k) ch hO
theorem agArrive {O : CellTallies nD τ sig ℕ} (k : Fin 3) (hO : Above (lev (1, d, k) ch.val) O) {α : Type} {kk : PUnit → KProg F α} {Φ : α → sProp 𝕄} :
    iprop(ctx m κ ∗ gone c (1, d, k) ch.val ∗ ow c O)
      ⊢ iprop(((idle c (1, d, k) (ch.val + 1) ∗ any c (agV d k.castSucc) ∗ has c (agV d k.succ) (agMsg m d ch k (srcW c d)) ∗ extra c ch.val (1, d, k) ∗ ow c O) -∗ WP c (kk ⟨⟩) Φ) -∗ WP c (agWaitS d k >>= fun _ => agWaitR d k >>= kk) Φ) := by
  unfold agWaitS agWaitR; simp only [Prog.lift, Prog.bind_op, Prog.bind_ret]
  exact wp_arrive m κ c (1, d, k) ch hO

/-! ## The local work -/

theorem phave_idle (s : Fin 2) (X : Vec F S256x2048 .f32) : phave m c d s X ⊢ pidle m c d s := by
  unfold phave pidle
  iintro ⟨Hp, Hd, Hv⟩
  isplitl [Hp]; · iexact Hp
  isplitl [Hd]; · iexists X; iexact Hd
  iexact Hv
theorem rhave_idle (X : Vec F S256x2048 .f32) : rhave m c d X ⊢ ridle m c d := by
  unfold rhave ridle
  iintro ⟨Hp, Hd, Hv⟩
  isplitl [Hp]; · iexact Hp
  isplitl [Hd]; · iexists X; iexact Hd
  iexact Hv

/-- A load of a staged block of the partial sums, the last use of the slot. -/
theorem wp_takeP (s : Fin 2) {α : Type} {X : Vec F S256x2048 .f32} {k : Vec F S1x1x256x2048 .f32 → KProg F α} {Φ : α → sProp 𝕄} :
    phave m c d s X ⊢ iprop((pidle m c d s -∗ WP c (k (cutUp h4 X)) Φ) -∗ WP c (loadP d s >>= k) Φ) := by
  unfold phave pidle
  iintro ⟨Hp, Hd, Hv⟩ Hk
  iapply (wp_loadP c d s) $$ Hd
  iintro Hd
  iapply Hk
  isplitl [Hp]; · iexact Hp
  isplitl [Hd]; · iexists X; iexact Hd
  iexact Hv
theorem wp_takeR {α : Type} {X : Vec F S256x2048 .f32} {k : Vec F S1x256x2048 .f32 → KProg F α} {Φ : α → sProp 𝕄} :
    rhave m c d X ⊢ iprop((ridle m c d -∗ WP c (k (cutUp h3 X)) Φ) -∗ WP c (loadR d >>= k) Φ) := by
  unfold rhave ridle
  iintro ⟨Hp, Hd, Hv⟩ Hk
  iapply (wp_loadR c d) $$ Hd
  iintro Hd
  iapply Hk
  isplitl [Hp]; · iexact Hp
  isplitl [Hd]; · iexists X; iexact Hd
  iexact Hv

/-- A send slot rewritten. -/
theorem wp_putS (s : Fin 2) {v : Vec F S1x1x256x2048 .bf16} {α : Type} {k : PUnit → KProg F α} {Φ : α → sProp 𝕄} :
    any c (sendV d s) ⊢ iprop((has c (sendV d s) (cutDown h4 v) -∗ WP c (k ⟨⟩) Φ) -∗ WP c (loadS d s >>= fun _ => storeS d s v >>= k) Φ) := by
  iintro ⟨%X, H⟩ Hk
  iapply (wp_loadS c d s) $$ H
  iintro H
  iapply (storeS_spec c d s v _ _) $$ [H]
  · iexists X; iexact H
  iexact Hk

/-- An output slot rewritten and its copy out started. -/
theorem wp_putO (s : Fin 2) {v : Vec F S1x1x256x2048 .f32} (off : Fin 2 → Nat) (h : InR off) {α : Type} {k : PUnit → KProg F α} {Φ : α → sProp 𝕄} :
    iprop(oidle c d s ∗ any c (outV off h))
      ⊢ iprop((ofly c d s off h (cutDown h4 v) -∗ WP c (k ⟨⟩) Φ) -∗ WP c (loadO d s >>= fun _ => storeO d s v >>= fun _ => startO d s off h >>= k) Φ) := by
  unfold oidle
  iintro ⟨⟨⟨%X, H⟩, Hv⟩, Ho⟩ Hk
  iapply (wp_loadO c d s) $$ H
  iintro H
  iapply (storeO_spec c d s v _ _) $$ [H]
  · iexists X; iexact H
  iintro H
  iapply (startO_spec c d s off h _ _ _) $$ [H Hv Ho]
  · isplitl [H]; · iexact H
    isplitl [Hv]; · iexact Hv
    iexact Ho
  iexact Hk

/-- The narrowed rows kept. -/
theorem wp_putA {v : Vec F S1x1x256x2048 .bf16} {α : Type} {k : PUnit → KProg F α} {Φ : α → sProp 𝕄} :
    any c (agV d 0) ⊢ iprop((has c (agV d 0) (cutDown h4 v) -∗ WP c (k ⟨⟩) Φ) -∗ WP c (loadA d 0 >>= fun _ => storeA d v >>= k) Φ) := by
  iintro ⟨%X, H⟩ Hk
  iapply (wp_loadA c d 0) $$ H
  iintro H
  iapply (storeA_spec c d v _ _) $$ [H]
  · iexists X; iexact H
  iexact Hk

/-! ## The fragments -/

theorem beginD_spec : Spec c iprop(pidle m c d 0 ∗ ridle m c d) (beginD c ch d)
    iprop(pfly m c d 0 (offSend c d ch) (offSend_in c d ch) ∗ rfly m c d (offOwn c d ch) (offOwn_in c d ch)) := fun k Φ => by
  unfold beginD; simp only [bind_assoc]
  iintro ⟨Hp, Hr⟩ Hk
  iapply (startP_spec m c d 0 _ _ _ _) $$ Hp
  iintro Hp
  iapply (startR_spec m c d _ _ _ _) $$ Hr
  iintro Hr
  iapply Hk
  isplitl [Hp]; · iexact Hp
  iexact Hr

theorem firstD_spec {O : CellTallies nD τ sig ℕ} (hO : Above 0 O) :
    Spec c iprop(ctx m κ ∗ pfly m c d 0 (offSend c d ch) (offSend_in c d ch) ∗ pidle m c d 1 ∗ any c (sendV d 0) ∗ ow c O) (firstD c ch d)
      iprop(pidle m c d 0 ∗ pfly m c d 1 (offRecv c d ch 0) (offRecv_in c d ch 0) ∗ has c (sendV d 0) (rsMsg0 m d ch c) ∗ ow c O) := fun k Φ => by
  unfold firstD rsMsg0; simp only [bind_assoc]
  iintro ⟨#Hctx, Hp, Hp1, Hs, HO⟩ Hk
  iapply (waitP_spec m κ c d 0 hO _ _ _ _) $$ [Hp HO]
  · isplitr; · iexact Hctx
    isplitl [Hp]; · iexact Hp
    iexact HO
  iintro ⟨Hp, HO⟩
  iapply (wp_takeP m c d 0) $$ Hp
  iintro Hp
  iapply (wp_putS c d 0) $$ Hs
  iintro Hs
  iapply (startP_spec m c d 1 _ _ _ _) $$ Hp1
  iintro Hp1
  iapply Hk
  isplitl [Hp]; · iexact Hp
  isplitl [Hp1]; · iexact Hp1
  isplitl [Hs]; · iexact Hs
  iexact HO

theorem foldD_spec (k k' : Fin 3) {O : CellTallies nD τ sig ℕ} (hO : Above (lev (0, d, k) ch.val) O) :
    Spec c iprop(ctx m κ ∗ pidle m c d (srcSlot k) ∗ pfly m c d (nextSlot k) (offRecv c d ch k) (offRecv_in c d ch k) ∗ gone c (0, d, k) ch.val
        ∗ any c (sendV d (nextSlot k)) ∗ ow c O) (foldD c ch k k' d)
      iprop(pfly m c d (srcSlot k) (offRecv c d ch k') (offRecv_in c d ch k') ∗ pidle m c d (nextSlot k) ∗ idle c (0, d, k) (ch.val + 1)
        ∗ any c (sendV d (srcSlot k)) ∗ has c (sendV d (nextSlot k)) (rsNext m d ch k (rsMsg m d ch k) c) ∗ any c (recvV d k) ∗ extra c ch.val (0, d, k) ∗ ow c O) := fun kk Φ => by
  unfold foldD rsNext; simp only [bind_assoc]
  iintro ⟨#Hctx, Hp, Hq, Hg, Hs, HO⟩ Hk
  iapply (startP_spec m c d (srcSlot k) _ _ _ _) $$ Hp
  iintro Hp
  iapply (waitP_spec m κ c d (nextSlot k) (hO.le (Nat.zero_le _)) _ _ _ _) $$ [Hq HO]
  · isplitr; · iexact Hctx
    isplitl [Hq]; · iexact Hq
    iexact HO
  iintro ⟨Hq, HO⟩
  iapply (rsArrive m κ c d ch k hO) $$ [Hg HO]
  · isplitr; · iexact Hctx
    isplitl [Hg]; · iexact Hg
    iexact HO
  iintro ⟨Hi, Hsrc, Hdst, He, HO⟩
  iapply (wp_loadV c d k) $$ Hdst
  iintro Hdst
  iapply (wp_takeP m c d (nextSlot k)) $$ Hq
  iintro Hq
  iapply (wp_putS c d (nextSlot k)) $$ Hs
  iintro Hs
  iapply Hk
  isplitl [Hp]; · iexact Hp
  isplitl [Hq]; · iexact Hq
  isplitl [Hi]; · iexact Hi
  isplitl [Hsrc]; · iexact Hsrc
  isplitl [Hs]; · iexact Hs
  isplitl [Hdst]; · iexists _; iexact Hdst
  isplitl [He]; · iexact He
  iexact HO

/-- `w` waits for what `P` has under way on an output slot and leaves `E` besides. -/
def Pending (s : Fin 2) (P : sProp 𝕄) (w : KProg F PUnit) (E : sProp 𝕄) : Prop :=
  ∀ O : CellTallies nD τ sig ℕ, Above 0 O → Spec c iprop(ctx m κ ∗ P ∗ ow c O) w iprop(oidle c d s ∗ E ∗ ow c O)

theorem pending_ofly (s : Fin 2) (off : Fin 2 → Nat) (h : InR off) (X : Vec F S256x2048 .f32) :
    Pending m κ c d s (ofly c d s off h X) (waitO d s off h) (has c (outV off h) X) := fun O hO => waitO_spec m κ c d s hO off h X

theorem pending_none (s : Fin 2) : Pending m κ c d s (oidle c d s) (Pure.pure ⟨⟩) iprop(emp) := fun O hO => Spec.pure (by
  iintro ⟨-, H, HO⟩
  isplitl [H]; · iexact H
  isplitr; · iempintro
  iexact HO)

theorem finishD_spec {w : Fin 2 → KProg F PUnit} {P E : sProp 𝕄} (hw : Pending m κ c d 0 P (w d) E) {O : CellTallies nD τ sig ℕ} (hO : Above (lev (0, d, 2) ch.val) O) :
    Spec c iprop(ctx m κ ∗ pfly m c d 1 (offRecv c d ch 2) (offRecv_in c d ch 2) ∗ rfly m c d (offOwn c d ch) (offOwn_in c d ch) ∗ gone c (0, d, 2) ch.val
        ∗ has c gamM (gamAt m c) ∗ P ∗ any c (outV (offOwn c d ch) (offOwn_in c d ch)) ∗ any c (agV d 0) ∗ ow c O) (finishD c ch w d)
      iprop(pidle m c d 1 ∗ ridle m c d ∗ idle c (0, d, 2) (ch.val + 1) ∗ any c (sendV d 0) ∗ any c (recvV d 2) ∗ has c gamM (gamAt m c) ∗ E
        ∗ ofly c d 0 (offOwn c d ch) (offOwn_in c d ch) (ownOut m d ch c) ∗ has c (agV d 0) (agMsg0 m d ch c) ∗ ow c O) := fun kk Φ => by
  unfold finishD ownOut agMsg0; simp only [bind_assoc]
  have hO0 : Above 0 O := hO.le (Nat.zero_le _)
  iintro ⟨#Hctx, Hq, Hr, Hg, Hgam, HP, Hout, Ha, HO⟩ Hk
  iapply (waitP_spec m κ c d 1 hO0 _ _ _ _) $$ [Hq HO]
  · isplitr; · iexact Hctx
    isplitl [Hq]; · iexact Hq
    iexact HO
  iintro ⟨Hq, HO⟩
  iapply (rsArrive m κ c d ch 2 hO) $$ [Hg HO]
  · isplitr; · iexact Hctx
    isplitl [Hg]; · iexact Hg
    iexact HO
  iintro ⟨Hi, Hsrc, Hdst, -, HO⟩
  iapply (waitR_spec m κ c d hO0 _ _ _ _) $$ [Hr HO]
  · isplitr; · iexact Hctx
    isplitl [Hr]; · iexact Hr
    iexact HO
  iintro ⟨Hr, HO⟩
  iapply (wp_loadV c d 2) $$ Hdst
  iintro Hdst
  iapply (wp_takeP m c d 1) $$ Hq
  iintro Hq
  iapply (wp_takeR m c d) $$ Hr
  iintro Hr
  iapply (wp_loadG c) $$ Hgam
  iintro Hgam
  iapply (hw O hO0 _ _) $$ [HP HO]
  · isplitr; · iexact Hctx
    isplitl [HP]; · iexact HP
    iexact HO
  iintro ⟨Ho, HE, HO⟩
  iapply (wp_putO c d 0 _ _) $$ [Ho Hout]
  · isplitl [Ho]; · iexact Ho
    iexact Hout
  iintro Ho
  iapply (wp_putA c d) $$ Ha
  iintro Ha
  iapply Hk
  isplitl [Hq]; · iexact Hq
  isplitl [Hr]; · iexact Hr
  isplitl [Hi]; · iexact Hi
  isplitl [Hsrc]; · iexact Hsrc
  isplitl [Hdst]; · iexists _; iexact Hdst
  isplitl [Hgam]; · iexact Hgam
  isplitl [HE]; · iexact HE
  isplitl [Ho]; · iexact Ho
  isplitl [Ha]; · iexact Ha
  iexact HO

theorem takeD_spec (k : Fin 3) (s : Fin 2) {w : Fin 2 → KProg F PUnit} {P E : sProp 𝕄} (hw : Pending m κ c d s P (w d) E) {O : CellTallies nD τ sig ℕ}
    (hO : Above (lev (1, d, k) ch.val) O) :
    Spec c iprop(ctx m κ ∗ gone c (1, d, k) ch.val ∗ P ∗ any c (outV (offAg c d ch k) (offAg_in c d ch k)) ∗ ow c O) (takeD c ch k s w d)
      iprop(idle c (1, d, k) (ch.val + 1) ∗ any c (agV d k.castSucc) ∗ has c (agV d k.succ) (agMsg m d ch k (srcW c d)) ∗ extra c ch.val (1, d, k) ∗ E
        ∗ ofly c d s (offAg c d ch k) (offAg_in c d ch k) (agOut m d ch k c) ∗ ow c O) := fun kk Φ => by
  unfold takeD agOut; simp only [bind_assoc]
  have hO0 : Above 0 O := hO.le (Nat.zero_le _)
  iintro ⟨#Hctx, Hg, HP, Hout, HO⟩ Hk
  iapply (agArrive m κ c d ch k hO) $$ [Hg HO]
  · isplitr; · iexact Hctx
    isplitl [Hg]; · iexact Hg
    iexact HO
  iintro ⟨Hi, Hsrc, Hdst, He, HO⟩
  iapply (hw O hO0 _ _) $$ [HP HO]
  · isplitr; · iexact Hctx
    isplitl [HP]; · iexact HP
    iexact HO
  iintro ⟨Ho, HE, HO⟩
  iapply (wp_loadA c d k.succ) $$ Hdst
  iintro Hdst
  iapply (wp_putO c d s _ _) $$ [Ho Hout]
  · isplitl [Ho]; · iexact Ho
    iexact Hout
  iintro Ho
  iapply Hk
  isplitl [Hi]; · iexact Hi
  isplitl [Hsrc]; · iexact Hsrc
  isplitl [Hdst]; · iexact Hdst
  isplitl [He]; · iexact He
  isplitl [HE]; · iexact HE
  isplitl [Ho]; · iexact Ho
  iexact HO

end Cert.Proof

end
-- ==== Proof.Chunk.lean ====
/-
  A chunk: both directions' fragments in turn.
-/
module

public import proofs.«01_k».proof.Proof.Fragments

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (κ : GSem nD τ sig → ℕ)

variable (c : Dev nD) (d : Fin 2) (ch : Fin 4)

/-! ## Handing the slots over -/

/-- The neighbour's slot that a channel writes, held by the sender. -/
def lane (x : Chan) (r : ℕ) : sProp 𝕄 := iprop(any (nbrW c x.2.1) (dstV x) ∗ reached ER (rCell (nbrW c x.2.1) x) r)
/-- A channel ready to send. -/
def armed (x : Chan) (r : ℕ) : sProp 𝕄 := iprop(idle c x r ∗ right c x r)

theorem grant_lanes (g : Fin 2) (r : ℕ) : grant (F := F) g d (nbrW c d) r ⊢ iprop(lane c (g, d, 0) r ∗ lane c (g, d, 1) r ∗ lane c (g, d, 2) r) := by
  unfold grant lot ready lane
  iintro ⟨⟨H0, H1, H2⟩, R0, R1, R2⟩
  isplitl [H0 R0]; · isplitl [H0] <;> iassumption
  isplitl [H1 R1]; · isplitl [H1] <;> iassumption
  isplitl [H2] <;> iassumption

/-- The slots that a device keeps after the last chunk, and what it holds of its neighbour's for the next one. -/
def keep (r : ℕ) : sProp 𝕄 := if r < 3 then iprop(emp) else lot 0 d c
def onward (r : ℕ) : sProp 𝕄 := if r < 3 then grant 0 d (nbrW c d) (r + 1) else lot 0 d c

theorem give_rs (r : ℕ) : iprop(lot (F := F) 1 (opp d) c ∗ ready 1 (opp d) c r) ⊢ extra (nbrW c d) r (0, d, 0) := by
  show _ ⊢ grant 1 (opp d) (srcW (nbrW c d) d) r
  rw [show srcW (nbrW c d) d = c from nbr_opp c d]
  exact .rfl
theorem give_ag (r : ℕ) : iprop(lot (F := F) 0 (opp d) c ∗ ready 0 (opp d) c (r + 1)) ⊢ iprop(extra (nbrW c d) r (1, d, 0) ∗ keep c (opp d) r) := by
  show _ ⊢ iprop((if r < 3 then grant 0 (opp d) (srcW (nbrW c d) d) (r + 1) else iprop(emp)) ∗ keep c (opp d) r)
  rw [show srcW (nbrW c d) d = c from nbr_opp c d]
  unfold keep grant
  split
  · iintro H
    isplitl [H]; · iexact H
    iempintro
  · iintro ⟨H, -⟩
    isplitr; · iempintro
    iexact H
theorem onward_intro (r : ℕ) : iprop(extra (F := F) c r (1, d, 0) ∗ keep c (opp d) r) ⊢ onward c (opp d) r := by
  show iprop((if r < 3 then grant 0 (opp d) (nbrW c (opp d)) (r + 1) else iprop(emp)) ∗ keep c (opp d) r) ⊢ _
  unfold keep onward
  split
  · iintro ⟨H, -⟩; iexact H
  · iintro ⟨-, H⟩; iexact H
theorem take_rs (r : ℕ) : extra (F := F) c r (0, d, 0) ⊢ iprop(lane c (1, opp d, 0) r ∗ lane c (1, opp d, 1) r ∗ lane c (1, opp d, 2) r) :=
  grant_lanes c (opp d) 1 r

/-! ## The sends, and the dues of a chunk -/

theorem rsStart' (k : Fin 3) (O : CellTallies nD τ sig ℕ) {E : sProp 𝕄} (hE : E ⊢ extra (nbrW c d) ch.val (0, d, k)) :
    Spec c iprop(ctx m κ ∗ has c (sendV d (srcSlot k)) (rsMsg m d ch k c) ∗ lane c (0, d, k) ch.val ∗ E ∗ armed c (0, d, k) ch.val ∗ ow c (O + due c (0, d, k) ch.val))
      (rsStart (nbrW c d) d k) iprop(gone c (0, d, k) ch.val ∗ ow c O) := fun kk Φ => by
  refine BIBase.Entails.trans ?_ (rsStart_spec m κ c d ch k O kk Φ)
  unfold lane armed sendPre
  iintro ⟨Hctx, Hs, ⟨Hd, Hr⟩, HE, ⟨Hi, Ht⟩, HO⟩
  isplitl [Hctx]; · iexact Hctx
  isplitl [Hs]; · iexact Hs
  isplitl [Hd]; · iexact Hd
  isplitl [Hr]; · iexact Hr
  isplitl [HE]; · iapply hE; iexact HE
  isplitl [Hi]; · iexact Hi
  isplitl [Ht]; · iexact Ht
  iexact HO
theorem agStart' (k : Fin 3) (O : CellTallies nD τ sig ℕ) {E : sProp 𝕄} (hE : E ⊢ extra (nbrW c d) ch.val (1, d, k)) :
    Spec c iprop(ctx m κ ∗ has c (agV d k.castSucc) (agMsg m d ch k c) ∗ lane c (1, d, k) ch.val ∗ E ∗ armed c (1, d, k) ch.val ∗ ow c (O + due c (1, d, k) ch.val))
      (agStart (nbrW c d) d k) iprop(gone c (1, d, k) ch.val ∗ ow c O) := fun kk Φ => by
  refine BIBase.Entails.trans ?_ (agStart_spec m κ c d ch k O kk Φ)
  unfold lane armed sendPre
  iintro ⟨Hctx, Hs, ⟨Hd, Hr⟩, HE, ⟨Hi, Ht⟩, HO⟩
  isplitl [Hctx]; · iexact Hctx
  isplitl [Hs]; · iexact Hs
  isplitl [Hd]; · iexact Hd
  isplitl [Hr]; · iexact Hr
  isplitl [HE]; · iapply hE; iexact HE
  isplitl [Hi]; · iexact Hi
  isplitl [Ht]; · iexact Ht
  iexact HO

/-- A step's dues before those in `O`; a chunk's. -/
def stepDue (r : ℕ) (g : Fin 2) (k : Fin 3) (O : CellTallies nD τ sig ℕ) : CellTallies nD τ sig ℕ := O + due c (g, 1, k) r + due c (g, 0, k) r
def chunkDue (r : ℕ) (O : CellTallies nD τ sig ℕ) : CellTallies nD τ sig ℕ :=
  stepDue c r 0 0 (stepDue c r 0 1 (stepDue c r 0 2 (stepDue c r 1 0 (stepDue c r 1 1 (stepDue c r 1 2 O)))))

theorem Above.step {n : ℕ} {O : CellTallies nD τ sig ℕ} (h : Above n O) {r : ℕ} (hr : r < 4) (g : Fin 2) (k : Fin 3) (hn : n < 2 + 6 * r + 3 * g.val + k.val) :
    Above n (stepDue c r g k O) := (h.add (Above.due c (g, 1, k) hr hn)).add (Above.due c (g, 0, k) hr hn)

theorem Above.chunk {n : ℕ} {O : CellTallies nD τ sig ℕ} (h : Above n O) {r : ℕ} (hr : r < 4) (hn : n < 2 + 6 * r) : Above n (chunkDue c r O) := by
  unfold chunkDue
  refine Above.step c (Above.step c (Above.step c (Above.step c (Above.step c (Above.step c h hr 1 2 ?_) hr 1 1 ?_) hr 1 0 ?_) hr 0 2 ?_) hr 0 1 ?_) hr 0 0 ?_ <;> simp <;> omega

/-! ## A chunk -/

/-- A direction's own buffers, all at rest. -/
def rest : sProp 𝕄 := iprop(pidle m c d 0 ∗ pidle m c d 1 ∗ ridle m c d ∗ any c (sendV d 0) ∗ any c (sendV d 1) ∗ any c (agV d 0) ∗ lot 1 d c)
/-- Its channels at rest before round `r`; the rights of the round. -/
def idles (r : ℕ) : sProp 𝕄 := iprop(idle c (0, d, 0) r ∗ idle c (0, d, 1) r ∗ idle c (0, d, 2) r ∗ idle c (1, d, 0) r ∗ idle c (1, d, 1) r ∗ idle c (1, d, 2) r)
def rights (r : ℕ) : sProp 𝕄 := iprop(right c (0, d, 0) r ∗ right c (0, d, 1) r ∗ right c (0, d, 2) r ∗ right c (1, d, 0) r ∗ right c (1, d, 1) r ∗ right c (1, d, 2) r)
/-- The rows of the result that the direction writes in chunk `ch`, not yet written. -/
def outs : sProp 𝕄 := iprop(any c (outV (offOwn c d ch) (offOwn_in c d ch)) ∗ any c (outV (offAg c d ch 0) (offAg_in c d ch 0))
  ∗ any c (outV (offAg c d ch 1) (offAg_in c d ch 1)) ∗ any c (outV (offAg c d ch 2) (offAg_in c d ch 2)))

/-- A phase's channels at rest show that its receive cells are at the round. -/
theorem idles3_ready (g : Fin 2) (r : ℕ) :
    iprop(idle (F := F) c (g, d, 0) r ∗ idle c (g, d, 1) r ∗ idle c (g, d, 2) r) ⊢ iprop((idle c (g, d, 0) r ∗ idle c (g, d, 1) r ∗ idle c (g, d, 2) r) ∗ ready g d c r) := by
  unfold ready
  iintro ⟨H0, H1, H2⟩
  ihave H0' := (idle_reached c (g, d, 0) r) $$ H0
  icases H0' with ⟨H0, #R0⟩
  ihave H1' := (idle_reached c (g, d, 1) r) $$ H1
  icases H1' with ⟨H1, #R1⟩
  ihave H2' := (idle_reached c (g, d, 2) r) $$ H2
  icases H2' with ⟨H2, #R2⟩
  isplitl
  · isplitl [H0]; · iexact H0
    isplitl [H1]; · iexact H1
    iexact H2
  isplitr; · iexact R0
  isplitr; · iexact R1
  iexact R2

/-- A direction before chunk `ch`, with `P0` and `P1` under way on its output slots; -/
def dirPre (P0 P1 : sProp 𝕄) : sProp 𝕄 := iprop(rest m c d ∗ grant 0 d (nbrW c d) ch.val ∗ idles c d ch.val ∗ rights c d ch.val ∗ outs c d ch ∗ P0 ∗ P1)
/-- the copies out that the chunk leaves under way; -/
def fly0 : sProp 𝕄 := ofly c d 0 (offAg c d ch 1) (offAg_in c d ch 1) (agOut m d ch 1 c)
def fly1 : sProp 𝕄 := ofly c d 1 (offAg c d ch 2) (offAg_in c d ch 2) (agOut m d ch 2 c)
/-- and the direction after the chunk, `E0` and `E1` what those before it left. -/
def dirPost (E0 E1 : sProp 𝕄) : sProp 𝕄 := iprop(rest m c d ∗ onward c d ch.val ∗ idles c d (ch.val + 1)
  ∗ has c (outV (offOwn c d ch) (offOwn_in c d ch)) (ownOut m d ch c) ∗ has c (outV (offAg c d ch 0) (offAg_in c d ch 0)) (agOut m d ch 0 c)
  ∗ fly0 m c d ch ∗ fly1 m c d ch ∗ E0 ∗ E1)

theorem chunk_spec {w0 w1 : Fin 2 → KProg F PUnit} {P0 P1 E0 E1 : Fin 2 → sProp 𝕄} (h0 : ∀ d, Pending m κ c d 0 (P0 d) (w0 d) (E0 d)) (h1 : ∀ d, Pending m κ c d 1 (P1 d) (w1 d) (E1 d))
    {O : CellTallies nD τ sig ℕ} (hO : Above (7 + 6 * ch.val) O) :
    Spec c iprop(ctx m κ ∗ has c gamM (gamAt m c) ∗ dirPre m c 0 ch (P0 0) (P1 0) ∗ dirPre m c 1 ch (P0 1) (P1 1) ∗ ow c (chunkDue c ch.val O)) (chunk c w0 w1 ch)
      iprop(has c gamM (gamAt m c) ∗ dirPost m c 0 ch (E0 0) (E1 0) ∗ dirPost m c 1 ch (E0 1) (E1 1) ∗ ow c O) := fun kk Φ => by
  have hr := ch.isLt
  have a5 := hO
  have a4 : Above (6 + 6 * ch.val) (stepDue c ch.val 1 2 O) := (hO.le (by omega)).step c hr 1 2 (by simp; omega)
  have a3 : Above (5 + 6 * ch.val) (stepDue c ch.val 1 1 (stepDue c ch.val 1 2 O)) := (a4.le (by omega)).step c hr 1 1 (by simp; omega)
  have a2 : Above (4 + 6 * ch.val) (stepDue c ch.val 1 0 (stepDue c ch.val 1 1 (stepDue c ch.val 1 2 O))) := (a3.le (by omega)).step c hr 1 0 (by simp; omega)
  have a1 : Above (3 + 6 * ch.val) (stepDue c ch.val 0 2 (stepDue c ch.val 1 0 (stepDue c ch.val 1 1 (stepDue c ch.val 1 2 O)))) :=
    (a2.le (by omega)).step c hr 0 2 (by simp; omega)
  have a0 : Above (2 + 6 * ch.val) (stepDue c ch.val 0 1 (stepDue c ch.val 0 2 (stepDue c ch.val 1 0 (stepDue c ch.val 1 1 (stepDue c ch.val 1 2 O))))) :=
    (a1.le (by omega)).step c hr 0 1 (by simp <;> omega)
  have a' : Above 0 (chunkDue c ch.val O) := (hO.le (Nat.zero_le _)).chunk c hr (by omega)
  have e : ∀ x : Chan, lev x ch.val = 2 + 6 * ch.val + 3 * x.1.val + x.2.2.val := fun x => rfl
  unfold chunk; simp only [bind_assoc]
  unfold dirPre rest rights outs
  iintro ⟨#Hctx, Hgam, ⟨⟨Hp0, Hp1, Hr, Hs0, Hs1, Ha0, Hlot⟩, Hgr, Hid, ⟨Ht0, Ht1, Ht2, Ht3, Ht4, Ht5⟩, ⟨Hq0, Hq1, Hq2, Hq3⟩, HP0, HP1⟩,
    ⟨⟨Kp0, Kp1, Kr, Ks0, Ks1, Ka0, Klot⟩, Kgr, Kid, ⟨Kt0, Kt1, Kt2, Kt3, Kt4, Kt5⟩, ⟨Kq0, Kq1, Kq2, Kq3⟩, KP0, KP1⟩, HO⟩ Hk
  unfold idles
  icases Hid with ⟨Hi0, Hi1, Hi2, Hi3, Hi4, Hi5⟩
  icases Kid with ⟨Ki0, Ki1, Ki2, Ki3, Ki4, Ki5⟩
  ihave Hf := (idles3_ready c 0 1 ch.val) $$ [Hi3 Hi4 Hi5]
  · isplitl [Hi3]; · iexact Hi3
    isplitl [Hi4] <;> iassumption
  icases Hf with ⟨⟨Hi3, Hi4, Hi5⟩, #Hrdy⟩
  ihave Kf := (idles3_ready c 1 1 ch.val) $$ [Ki3 Ki4 Ki5]
  · isplitl [Ki3]; · iexact Ki3
    isplitl [Ki4] <;> iassumption
  icases Kf with ⟨⟨Ki3, Ki4, Ki5⟩, #Krdy⟩
  ihave Hl := (grant_lanes c 0 0 ch.val) $$ Hgr
  icases Hl with ⟨Hl0, Hl1, Hl2⟩
  ihave Kl := (grant_lanes c 1 0 ch.val) $$ Kgr
  icases Kl with ⟨Kl0, Kl1, Kl2⟩
  -- stage the first blocks
  iapply (beginD_spec m c 0 ch _ _) $$ [Hp0 Hr]
  · isplitl [Hp0] <;> iassumption
  iintro ⟨Hp0, Hr⟩
  iapply (beginD_spec m c 1 ch _ _) $$ [Kp0 Kr]
  · isplitl [Kp0] <;> iassumption
  iintro ⟨Kp0, Kr⟩
  iapply (firstD_spec m κ c 0 ch a' _ _) $$ [Hp0 Hp1 Hs0 HO]
  · isplitr; · iexact Hctx
    isplitl [Hp0]; · iexact Hp0
    isplitl [Hp1]; · iexact Hp1
    isplitl [Hs0]; · iexact Hs0
    iexact HO
  iintro ⟨Hp0, Hp1, Hs0, HO⟩
  iapply (firstD_spec m κ c 1 ch a' _ _) $$ [Kp0 Kp1 Ks0 HO]
  · isplitr; · iexact Hctx
    isplitl [Kp0]; · iexact Kp0
    isplitl [Kp1]; · iexact Kp1
    isplitl [Ks0]; · iexact Ks0
    iexact HO
  iintro ⟨Kp0, Kp1, Ks0, HO⟩
  unfold chunkDue
  -- reduce-scatter, step 0
  iapply (rsStart' m κ c 0 ch 0 (stepDue c ch.val 0 1 (stepDue c ch.val 0 2 (stepDue c ch.val 1 0 (stepDue c ch.val 1 1 (stepDue c ch.val 1 2 O)))) + due c (0, 1, 0) ch.val)
    (give_rs c 0 ch.val) _ _) $$ [Hs0 Hl0 Klot Hi0 Ht0 HO]
  · isplitr; · iexact Hctx
    isplitl [Hs0]; · iexact Hs0
    isplitl [Hl0]; · iexact Hl0
    isplitl [Klot]
    · isplitl [Klot]; · iexact Klot
      iexact Krdy
    isplitl [Hi0 Ht0]
    · unfold armed; isplitl [Hi0] <;> iassumption
    iexact HO
  iintro ⟨Hg, HO⟩
  iapply (rsStart' m κ c 1 ch 0 (stepDue c ch.val 0 1 (stepDue c ch.val 0 2 (stepDue c ch.val 1 0 (stepDue c ch.val 1 1 (stepDue c ch.val 1 2 O)))))
    (give_rs c 1 ch.val) _ _) $$ [Ks0 Kl0 Hlot Ki0 Kt0 HO]
  · isplitr; · iexact Hctx
    isplitl [Ks0]; · iexact Ks0
    isplitl [Kl0]; · iexact Kl0
    isplitl [Hlot]
    · isplitl [Hlot]; · iexact Hlot
      iexact Hrdy
    isplitl [Ki0 Kt0]
    · unfold armed; isplitl [Ki0] <;> iassumption
    iexact HO
  iintro ⟨Kg, HO⟩
  iapply (foldD_spec m κ c 0 ch 0 1 (a0.le (by simp only [e]; simp <;> omega)) _ _) $$ [Hp0 Hp1 Hg Hs1 HO]
  · isplitr; · iexact Hctx
    isplitl [Hp0]; · iexact Hp0
    isplitl [Hp1]; · iexact Hp1
    isplitl [Hg]; · iexact Hg
    isplitl [Hs1]; · iexact Hs1
    iexact HO
  iintro ⟨Hp0, Hp1, Hi0, Hs0, Hs1, Hv0, He, HO⟩
  iapply (foldD_spec m κ c 1 ch 0 1 (a0.le (by simp only [e]; simp <;> omega)) _ _) $$ [Kp0 Kp1 Kg Ks1 HO]
  · isplitr; · iexact Hctx
    isplitl [Kp0]; · iexact Kp0
    isplitl [Kp1]; · iexact Kp1
    isplitl [Kg]; · iexact Kg
    isplitl [Ks1]; · iexact Ks1
    iexact HO
  iintro ⟨Kp0, Kp1, Ki0, Ks0, Ks1, Kv0, Ke, HO⟩
  ihave Kl' := (take_rs c 0 ch.val) $$ He
  icases Kl' with ⟨Kl3, Kl4, Kl5⟩
  ihave Hl' := (take_rs c 1 ch.val) $$ Ke
  icases Hl' with ⟨Hl3, Hl4, Hl5⟩
  -- step 1
  iapply (rsStart' m κ c 0 ch 1 (stepDue c ch.val 0 2 (stepDue c ch.val 1 0 (stepDue c ch.val 1 1 (stepDue c ch.val 1 2 O))) + due c (0, 1, 1) ch.val)
    (E := iprop(emp)) .rfl _ _) $$ [Hs1 Hl1 Hi1 Ht1 HO]
  · isplitr; · iexact Hctx
    isplitl [Hs1]; · iexact Hs1
    isplitl [Hl1]; · iexact Hl1
    isplitr; · iempintro
    isplitl [Hi1 Ht1]
    · unfold armed; isplitl [Hi1] <;> iassumption
    iexact HO
  iintro ⟨Hg, HO⟩
  iapply (rsStart' m κ c 1 ch 1 (stepDue c ch.val 0 2 (stepDue c ch.val 1 0 (stepDue c ch.val 1 1 (stepDue c ch.val 1 2 O))))
    (E := iprop(emp)) .rfl _ _) $$ [Ks1 Kl1 Ki1 Kt1 HO]
  · isplitr; · iexact Hctx
    isplitl [Ks1]; · iexact Ks1
    isplitl [Kl1]; · iexact Kl1
    isplitr; · iempintro
    isplitl [Ki1 Kt1]
    · unfold armed; isplitl [Ki1] <;> iassumption
    iexact HO
  iintro ⟨Kg, HO⟩
  iapply (foldD_spec m κ c 0 ch 1 2 (a1.le (by simp only [e]; simp <;> omega)) _ _) $$ [Hp0 Hp1 Hg Hs0 HO]
  · isplitr; · iexact Hctx
    isplitl [Hp1]; · iexact Hp1
    isplitl [Hp0]; · iexact Hp0
    isplitl [Hg]; · iexact Hg
    isplitl [Hs0]; · iexact Hs0
    iexact HO
  iintro ⟨Hp1, Hp0, Hi1, Hs1, Hs0, Hv1, -, HO⟩
  iapply (foldD_spec m κ c 1 ch 1 2 (a1.le (by simp only [e]; simp <;> omega)) _ _) $$ [Kp0 Kp1 Kg Ks0 HO]
  · isplitr; · iexact Hctx
    isplitl [Kp1]; · iexact Kp1
    isplitl [Kp0]; · iexact Kp0
    isplitl [Kg]; · iexact Kg
    isplitl [Ks0]; · iexact Ks0
    iexact HO
  iintro ⟨Kp1, Kp0, Ki1, Ks1, Ks0, Kv1, -, HO⟩
  -- step 2
  iapply (rsStart' m κ c 0 ch 2 (stepDue c ch.val 1 0 (stepDue c ch.val 1 1 (stepDue c ch.val 1 2 O)) + due c (0, 1, 2) ch.val)
    (E := iprop(emp)) .rfl _ _) $$ [Hs0 Hl2 Hi2 Ht2 HO]
  · isplitr; · iexact Hctx
    isplitl [Hs0]; · iexact Hs0
    isplitl [Hl2]; · iexact Hl2
    isplitr; · iempintro
    isplitl [Hi2 Ht2]
    · unfold armed; isplitl [Hi2] <;> iassumption
    iexact HO
  iintro ⟨Hg, HO⟩
  iapply (rsStart' m κ c 1 ch 2 (stepDue c ch.val 1 0 (stepDue c ch.val 1 1 (stepDue c ch.val 1 2 O)))
    (E := iprop(emp)) .rfl _ _) $$ [Ks0 Kl2 Ki2 Kt2 HO]
  · isplitr; · iexact Hctx
    isplitl [Ks0]; · iexact Ks0
    isplitl [Kl2]; · iexact Kl2
    isplitr; · iempintro
    isplitl [Ki2 Kt2]
    · unfold armed; isplitl [Ki2] <;> iassumption
    iexact HO
  iintro ⟨Kg, HO⟩
  iapply (finishD_spec m κ c 0 ch (h0 0) (a2.le (by simp only [e]; simp <;> omega)) _ _) $$ [Hp1 Hr Hg Hgam HP0 Hq0 Ha0 HO]
  · isplitr; · iexact Hctx
    isplitl [Hp1]; · iexact Hp1
    isplitl [Hr]; · iexact Hr
    isplitl [Hg]; · iexact Hg
    isplitl [Hgam]; · iexact Hgam
    isplitl [HP0]; · iexact HP0
    isplitl [Hq0]; · iexact Hq0
    isplitl [Ha0]; · iexact Ha0
    iexact HO
  iintro ⟨Hp1, Hr, Hi2, Hs0, Hv2, Hgam, HE0, Ho0, Ha0, HO⟩
  iapply (finishD_spec m κ c 1 ch (h0 1) (a2.le (by simp only [e]; simp <;> omega)) _ _) $$ [Kp1 Kr Kg Hgam KP0 Kq0 Ka0 HO]
  · isplitr; · iexact Hctx
    isplitl [Kp1]; · iexact Kp1
    isplitl [Kr]; · iexact Kr
    isplitl [Kg]; · iexact Kg
    isplitl [Hgam]; · iexact Hgam
    isplitl [KP0]; · iexact KP0
    isplitl [Kq0]; · iexact Kq0
    isplitl [Ka0]; · iexact Ka0
    iexact HO
  iintro ⟨Kp1, Kr, Ki2, Ks0, Kv2, Hgam, KE0, Ko0, Ka0, HO⟩
  -- the reduce-scatter's slots are free again
  ihave Hf := (idles3_ready c 0 0 (ch.val + 1)) $$ [Hi0 Hi1 Hi2]
  · isplitl [Hi0]; · iexact Hi0
    isplitl [Hi1] <;> iassumption
  icases Hf with ⟨⟨Hi0, Hi1, Hi2⟩, #Hfree⟩
  ihave Kf := (idles3_ready c 1 0 (ch.val + 1)) $$ [Ki0 Ki1 Ki2]
  · isplitl [Ki0]; · iexact Ki0
    isplitl [Ki1] <;> iassumption
  icases Kf with ⟨⟨Ki0, Ki1, Ki2⟩, #Kfree⟩
  ihave Hgive := (give_ag c 1 ch.val) $$ [Hv0 Hv1 Hv2]
  · isplitl
    · unfold lot
      isplitl [Hv0]; · iexact Hv0
      isplitl [Hv1]; · iexact Hv1
      iexact Hv2
    iexact Hfree
  icases Hgive with ⟨Kx, Hkeep⟩
  ihave Kgive := (give_ag c 0 ch.val) $$ [Kv0 Kv1 Kv2]
  · isplitl
    · unfold lot
      isplitl [Kv0]; · iexact Kv0
      isplitl [Kv1]; · iexact Kv1
      iexact Kv2
    iexact Kfree
  icases Kgive with ⟨Hx, Kkeep⟩
  -- all-gather, step 0
  iapply (agStart' m κ c 0 ch 0 (stepDue c ch.val 1 1 (stepDue c ch.val 1 2 O) + due c (1, 1, 0) ch.val) .rfl _ _) $$ [Ha0 Hl3 Hx Hi3 Ht3 HO]
  · isplitr; · iexact Hctx
    isplitl [Ha0]; · iexact Ha0
    isplitl [Hl3]; · iexact Hl3
    isplitl [Hx]; · iexact Hx
    isplitl [Hi3 Ht3]
    · unfold armed; isplitl [Hi3] <;> iassumption
    iexact HO
  iintro ⟨Hg, HO⟩
  iapply (agStart' m κ c 1 ch 0 (stepDue c ch.val 1 1 (stepDue c ch.val 1 2 O)) .rfl _ _) $$ [Ka0 Kl3 Kx Ki3 Kt3 HO]
  · isplitr; · iexact Hctx
    isplitl [Ka0]; · iexact Ka0
    isplitl [Kl3]; · iexact Kl3
    isplitl [Kx]; · iexact Kx
    isplitl [Ki3 Kt3]
    · unfold armed; isplitl [Ki3] <;> iassumption
    iexact HO
  iintro ⟨Kg, HO⟩
  iapply (takeD_spec m κ c 0 ch 0 1 (h1 0) (a3.le (by simp only [e]; simp <;> omega)) _ _) $$ [Hg HP1 Hq1 HO]
  · isplitr; · iexact Hctx
    isplitl [Hg]; · iexact Hg
    isplitl [HP1]; · iexact HP1
    isplitl [Hq1]; · iexact Hq1
    iexact HO
  iintro ⟨Hi3, Ha0, Ha1, Hx, HE1, Ho1, HO⟩
  iapply (takeD_spec m κ c 1 ch 0 1 (h1 1) (a3.le (by simp only [e]; simp <;> omega)) _ _) $$ [Kg KP1 Kq1 HO]
  · isplitr; · iexact Hctx
    isplitl [Kg]; · iexact Kg
    isplitl [KP1]; · iexact KP1
    isplitl [Kq1]; · iexact Kq1
    iexact HO
  iintro ⟨Ki3, Ka0, Ka1, Kx, KE1, Ko1, HO⟩
  ihave Kon := (onward_intro c 0 ch.val) $$ [Hx Kkeep]
  · isplitl [Hx]; · iexact Hx
    iexact Kkeep
  ihave Hon := (onward_intro c 1 ch.val) $$ [Kx Hkeep]
  · isplitl [Kx]; · iexact Kx
    iexact Hkeep
  -- step 1
  iapply (agStart' m κ c 0 ch 1 (stepDue c ch.val 1 2 O + due c (1, 1, 1) ch.val) (E := iprop(emp)) .rfl _ _) $$ [Ha1 Hl4 Hi4 Ht4 HO]
  · isplitr; · iexact Hctx
    isplitl [Ha1]; · iexact Ha1
    isplitl [Hl4]; · iexact Hl4
    isplitr; · iempintro
    isplitl [Hi4 Ht4]
    · unfold armed; isplitl [Hi4] <;> iassumption
    iexact HO
  iintro ⟨Hg, HO⟩
  iapply (agStart' m κ c 1 ch 1 (stepDue c ch.val 1 2 O) (E := iprop(emp)) .rfl _ _) $$ [Ka1 Kl4 Ki4 Kt4 HO]
  · isplitr; · iexact Hctx
    isplitl [Ka1]; · iexact Ka1
    isplitl [Kl4]; · iexact Kl4
    isplitr; · iempintro
    isplitl [Ki4 Kt4]
    · unfold armed; isplitl [Ki4] <;> iassumption
    iexact HO
  iintro ⟨Kg, HO⟩
  iapply (takeD_spec m κ c 0 ch 1 0 (pending_ofly m κ c 0 0 _ _ _) (a4.le (by simp only [e]; simp <;> omega)) _ _) $$ [Hg Ho0 Hq2 HO]
  · isplitr; · iexact Hctx
    isplitl [Hg]; · iexact Hg
    isplitl [Ho0]; · iexact Ho0
    isplitl [Hq2]; · iexact Hq2
    iexact HO
  iintro ⟨Hi4, Ha1, Ha2, -, Hq0, Ho0, HO⟩
  iapply (takeD_spec m κ c 1 ch 1 0 (pending_ofly m κ c 1 0 _ _ _) (a4.le (by simp only [e]; simp <;> omega)) _ _) $$ [Kg Ko0 Kq2 HO]
  · isplitr; · iexact Hctx
    isplitl [Kg]; · iexact Kg
    isplitl [Ko0]; · iexact Ko0
    isplitl [Kq2]; · iexact Kq2
    iexact HO
  iintro ⟨Ki4, Ka1, Ka2, -, Kq0, Ko0, HO⟩
  -- step 2
  iapply (agStart' m κ c 0 ch 2 (O + due c (1, 1, 2) ch.val) (E := iprop(emp)) .rfl _ _) $$ [Ha2 Hl5 Hi5 Ht5 HO]
  · isplitr; · iexact Hctx
    isplitl [Ha2]; · iexact Ha2
    isplitl [Hl5]; · iexact Hl5
    isplitr; · iempintro
    isplitl [Hi5 Ht5]
    · unfold armed; isplitl [Hi5] <;> iassumption
    iexact HO
  iintro ⟨Hg, HO⟩
  iapply (agStart' m κ c 1 ch 2 O (E := iprop(emp)) .rfl _ _) $$ [Ka2 Kl5 Ki5 Kt5 HO]
  · isplitr; · iexact Hctx
    isplitl [Ka2]; · iexact Ka2
    isplitl [Kl5]; · iexact Kl5
    isplitr; · iempintro
    isplitl [Ki5 Kt5]
    · unfold armed; isplitl [Ki5] <;> iassumption
    iexact HO
  iintro ⟨Kg, HO⟩
  iapply (takeD_spec m κ c 0 ch 2 1 (pending_ofly m κ c 0 1 _ _ _) (a5.le (by simp only [e]; simp <;> omega)) _ _) $$ [Hg Ho1 Hq3 HO]
  · isplitr; · iexact Hctx
    isplitl [Hg]; · iexact Hg
    isplitl [Ho1]; · iexact Ho1
    isplitl [Hq3]; · iexact Hq3
    iexact HO
  iintro ⟨Hi5, Ha2, Ha3, -, Hq1, Ho1, HO⟩
  iapply (takeD_spec m κ c 1 ch 2 1 (pending_ofly m κ c 1 1 _ _ _) (a5.le (by simp only [e]; simp <;> omega)) _ _) $$ [Kg Ko1 Kq3 HO]
  · isplitr; · iexact Hctx
    isplitl [Kg]; · iexact Kg
    isplitl [Ko1]; · iexact Ko1
    isplitl [Kq3]; · iexact Kq3
    iexact HO
  iintro ⟨Ki5, Ka2, Ka3, -, Kq1, Ko1, HO⟩
  iapply Hk
  isplitl [Hgam]; · iexact Hgam
  isplitl [Hp0 Hp1 Hr Hs0 Hs1 Ha0 Ha1 Ha2 Ha3 Hi0 Hi1 Hi2 Hi3 Hi4 Hi5 Hon Hq0 Hq1 Ho0 Ho1 HE0 HE1]
  · unfold dirPost rest lot idles fly0 fly1
    isplitl [Hp0 Hp1 Hr Hs0 Hs1 Ha0 Ha1 Ha2 Ha3]
    · isplitl [Hp0]; · iexact Hp0
      isplitl [Hp1]; · iexact Hp1
      isplitl [Hr]; · iexact Hr
      isplitl [Hs0]; · iexact Hs0
      isplitl [Hs1]; · iexact Hs1
      isplitl [Ha0]; · iexact Ha0
      isplitl [Ha1]; · iexact Ha1
      isplitl [Ha2]; · iexact Ha2
      iexists _; iexact Ha3
    isplitl [Hon]; · iexact Hon
    isplitl [Hi0 Hi1 Hi2 Hi3 Hi4 Hi5]
    · isplitl [Hi0]; · iexact Hi0
      isplitl [Hi1]; · iexact Hi1
      isplitl [Hi2]; · iexact Hi2
      isplitl [Hi3]; · iexact Hi3
      isplitl [Hi4]; · iexact Hi4
      iexact Hi5
    isplitl [Hq0]; · iexact Hq0
    isplitl [Hq1]; · iexact Hq1
    isplitl [Ho0]; · iexact Ho0
    isplitl [Ho1]; · iexact Ho1
    isplitl [HE0]; · iexact HE0
    iexact HE1
  isplitr [HO]
  · unfold dirPost rest lot idles fly0 fly1
    isplitl [Kp0 Kp1 Kr Ks0 Ks1 Ka0 Ka1 Ka2 Ka3]
    · isplitl [Kp0]; · iexact Kp0
      isplitl [Kp1]; · iexact Kp1
      isplitl [Kr]; · iexact Kr
      isplitl [Ks0]; · iexact Ks0
      isplitl [Ks1]; · iexact Ks1
      isplitl [Ka0]; · iexact Ka0
      isplitl [Ka1]; · iexact Ka1
      isplitl [Ka2]; · iexact Ka2
      iexists _; iexact Ka3
    isplitl [Kon]; · iexact Kon
    isplitl [Ki0 Ki1 Ki2 Ki3 Ki4 Ki5]
    · isplitl [Ki0]; · iexact Ki0
      isplitl [Ki1]; · iexact Ki1
      isplitl [Ki2]; · iexact Ki2
      isplitl [Ki3]; · iexact Ki3
      isplitl [Ki4]; · iexact Ki4
      iexact Ki5
    isplitl [Kq0]; · iexact Kq0
    isplitl [Kq1]; · iexact Kq1
    isplitl [Ko0]; · iexact Ko0
    isplitl [Ko1]; · iexact Ko1
    isplitl [KE0]; · iexact KE0
    iexact KE1
  iexact HO

end Cert.Proof

end
-- ==== Proof.Whole.lean ====
/-
  The whole body on one device: the handshake with both neighbours, the four chunks, the last copies out.
-/
module

public import proofs.«01_k».proof.Proof.Chunk

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (κ : GSem nD τ sig → ℕ)

variable (c : Dev nD) (d : Fin 2) (ch ch' : Fin 4)

/-! ## From chunk to chunk -/

/-- A direction between chunk `ch` and the next. -/
def mid : sProp 𝕄 := iprop(rest m c d ∗ onward c d ch.val ∗ idles c d (ch.val + 1) ∗ fly0 m c d ch ∗ fly1 m c d ch)
/-- What it needs anew for a chunk. -/
def fuel : sProp 𝕄 := iprop(rights c d ch.val ∗ outs c d ch)
/-- The rows written by the chunk's end; those written during the next. -/
def early : sProp 𝕄 := iprop(has c (outV (offOwn c d ch) (offOwn_in c d ch)) (ownOut m d ch c) ∗ has c (outV (offAg c d ch 0) (offAg_in c d ch 0)) (agOut m d ch 0 c))
def late0 : sProp 𝕄 := has c (outV (offAg c d ch 1) (offAg_in c d ch 1)) (agOut m d ch 1 c)
def late1 : sProp 𝕄 := has c (outV (offAg c d ch 2) (offAg_in c d ch 2)) (agOut m d ch 2 c)

theorem mid_pre (h : ch'.val = ch.val + 1) : iprop(mid m c d ch ∗ fuel c d ch') ⊢ dirPre m c d ch' (fly0 m c d ch) (fly1 m c d ch) := by
  have h3 : ch.val < 3 := by have := ch'.isLt; omega
  unfold mid fuel dirPre onward
  rw [if_pos h3, h]
  iintro ⟨⟨H1, H2, H3, H4, H5⟩, H6, H7⟩
  isplitl [H1]; · iexact H1
  isplitl [H2]; · iexact H2
  isplitl [H3]; · iexact H3
  isplitl [H6]; · iexact H6
  isplitl [H7]; · iexact H7
  isplitl [H4]; · iexact H4
  iexact H5

theorem post_mid (E0 E1 : sProp 𝕄) : dirPost m c d ch E0 E1 ⊢ iprop(mid m c d ch ∗ early m c d ch ∗ E0 ∗ E1) := by
  unfold mid early dirPost
  iintro ⟨H1, H2, H3, H4, H5, H6, H7, H8, H9⟩
  isplitl [H1 H2 H3 H6 H7]
  · isplitl [H1]; · iexact H1
    isplitl [H2]; · iexact H2
    isplitl [H3]; · iexact H3
    isplitl [H6]; · iexact H6
    iexact H7
  isplitl [H4 H5]
  · isplitl [H4]; · iexact H4
    iexact H5
  isplitl [H8]; · iexact H8
  iexact H9

theorem pend0 : Pending m κ c d 0 (fly0 m c d ch) (lastO0 c ch d) (late0 m c d ch) := pending_ofly m κ c d 0 _ _ _
theorem pend1 : Pending m κ c d 1 (fly1 m c d ch) (lastO1 c ch d) (late1 m c d ch) := pending_ofly m κ c d 1 _ _ _

/-- The first chunk, -/
theorem first_spec {O : CellTallies nD τ sig ℕ} (hO : Above 7 O) :
    Spec c iprop(ctx m κ ∗ has c gamM (gamAt m c) ∗ dirPre m c 0 0 (oidle c 0 0) (oidle c 0 1) ∗ dirPre m c 1 0 (oidle c 1 0) (oidle c 1 1) ∗ ow c (chunkDue c 0 O))
      (chunk c (fun _ => pure ⟨⟩) (fun _ => pure ⟨⟩) 0)
      iprop(has c gamM (gamAt m c) ∗ (mid m c 0 0 ∗ mid m c 1 0) ∗ (early m c 0 0 ∗ early m c 1 0) ∗ ow c O) := fun kk Φ => by
  iintro ⟨#Hctx, Hg, D0, D1, HO⟩ Hk
  iapply (chunk_spec m κ c 0 (fun d => pending_none m κ c d 0) (fun d => pending_none m κ c d 1) hO kk Φ) $$ [Hg D0 D1 HO]
  · isplitr; · iexact Hctx
    isplitl [Hg]; · iexact Hg
    isplitl [D0]; · iexact D0
    isplitl [D1]; · iexact D1
    iexact HO
  iintro ⟨Hg, H0, H1, HO⟩
  iapply Hk
  ihave H0' := (post_mid m c 0 0 _ _) $$ H0
  ihave H1' := (post_mid m c 1 0 _ _) $$ H1
  icases H0' with ⟨M0, E0, -⟩
  icases H1' with ⟨M1, E1, -⟩
  isplitl [Hg]; · iexact Hg
  isplitl [M0 M1]
  · isplitl [M0]; · iexact M0
    iexact M1
  isplitl [E0 E1]
  · isplitl [E0]; · iexact E0
    iexact E1
  iexact HO

/-- and one after another. -/
theorem next_spec (h : ch'.val = ch.val + 1) {O : CellTallies nD τ sig ℕ} (hO : Above (7 + 6 * ch'.val) O) :
    Spec c iprop(ctx m κ ∗ has c gamM (gamAt m c) ∗ (mid m c 0 ch ∗ mid m c 1 ch) ∗ fuel c 0 ch' ∗ fuel c 1 ch' ∗ ow c (chunkDue c ch'.val O))
      (chunk c (lastO0 c ch) (lastO1 c ch) ch')
      iprop(has c gamM (gamAt m c) ∗ (mid m c 0 ch' ∗ mid m c 1 ch') ∗ (early m c 0 ch' ∗ early m c 1 ch')
        ∗ (late0 m c 0 ch ∗ late1 m c 0 ch) ∗ (late0 m c 1 ch ∗ late1 m c 1 ch) ∗ ow c O) := fun kk Φ => by
  iintro ⟨#Hctx, Hg, ⟨M0, M1⟩, F0, F1, HO⟩ Hk
  iapply (chunk_spec m κ c ch' (fun d => pend0 m κ c d ch) (fun d => pend1 m κ c d ch) hO kk Φ) $$ [Hg M0 M1 F0 F1 HO]
  · isplitr; · iexact Hctx
    isplitl [Hg]; · iexact Hg
    isplitl [M0 F0]
    · iapply (mid_pre m c 0 ch ch' h)
      isplitl [M0]; · iexact M0
      iexact F0
    isplitl [M1 F1]
    · iapply (mid_pre m c 1 ch ch' h)
      isplitl [M1]; · iexact M1
      iexact F1
    iexact HO
  iintro ⟨Hg, H0, H1, HO⟩
  iapply Hk
  ihave H0' := (post_mid m c 0 ch' _ _) $$ H0
  ihave H1' := (post_mid m c 1 ch' _ _) $$ H1
  icases H0' with ⟨M0, E0, L0⟩
  icases H1' with ⟨M1, E1, L1⟩
  isplitl [Hg]; · iexact Hg
  isplitl [M0 M1]
  · isplitl [M0]; · iexact M0
    iexact M1
  isplitl [E0 E1]
  · isplitl [E0]; · iexact E0
    iexact E1
  isplitl [L0]; · iexact L0
  isplitl [L1]; · iexact L1
  iexact HO

/-! ## The whole -/

/-- What a device owes for its messages; for those and its signals. -/
def msgDue : CellTallies nD τ sig ℕ := chunkDue c 0 (chunkDue c 1 (chunkDue c 2 (chunkDue c 3 0)))
def allDue : CellTallies nD τ sig ℕ := msgDue c + tallyAt (barCell (nbrW c 1)) 0 1 + tallyAt (barCell (nbrW c 0)) 0 1

theorem Above.zero (n : ℕ) : Above n 0 := fun g i hp => absurd hp (lt_irrefl _)
theorem above3 : Above 19 (chunkDue c 3 0) := (Above.zero 19).chunk c (by decide) (by decide)
theorem above2 : Above 13 (chunkDue c 2 (chunkDue c 3 0)) := ((above3 c).le (by decide)).chunk c (by decide) (by decide)
theorem above1 : Above 7 (chunkDue c 1 (chunkDue c 2 (chunkDue c 3 0))) := ((above2 c).le (by decide)).chunk c (by decide) (by decide)
theorem above0 : Above 1 (msgDue c) := ((above1 c).le (by decide)).chunk c (by decide) (by decide)

/-- A direction at the start; at the end. -/
def dirStart : sProp 𝕄 := iprop(rest m c d ∗ lot 0 d c ∗ idles c d 0 ∗ (oidle c d 0 ∗ oidle c d 1) ∗ fuel c d 0 ∗ fuel c d 1 ∗ fuel c d 2 ∗ fuel c d 3)
def chunkDone : sProp 𝕄 := iprop(early m c d ch ∗ late0 m c d ch ∗ late1 m c d ch)
def dirEnd : sProp 𝕄 := iprop(rest m c d ∗ lot 0 d c ∗ idles c d 4 ∗ (oidle c d 0 ∗ oidle c d 1)
  ∗ chunkDone m c d 0 ∗ chunkDone m c d 1 ∗ chunkDone m c d 2 ∗ chunkDone m c d 3)
/-- What the handshake takes. -/
def hands : sProp 𝕄 := iprop(dutyTok ER (barCell (nbrW c 0)) 0 0 ∗ dutyTok ER (barCell (nbrW c 1)) 0 1
  ∗ reached ER (barCell (nbrW c 0)) 0 ∗ reached ER (barCell (nbrW c 1)) 0 ∗ atPos ER (barCell c) 0 ∅ 0 ∗ cred (tallyAt (barCell c) 0 2))

theorem pay_bar (d : Fin 2) : iprop(lot (F := F) 0 (opp d) c ∗ ready 0 (opp d) c 0) ⊢ (Rd m).payload (barCell (nbrW c d)) 0 d := by
  rw [payload_bar, show srcW (nbrW c d) d = c from nbr_opp c d]
  exact .rfl

theorem start_pre : iprop(rest m c d ∗ grant 0 d (nbrW c d) 0 ∗ idles c d 0 ∗ (oidle c d 0 ∗ oidle c d 1) ∗ fuel c d 0) ⊢ dirPre m c d 0 (oidle c d 0) (oidle c d 1) := by
  unfold fuel dirPre
  iintro ⟨H1, H2, H3, ⟨H4, H5⟩, H6, H7⟩
  isplitl [H1]; · iexact H1
  isplitl [H2]; · iexact H2
  isplitl [H3]; · iexact H3
  isplitl [H6]; · iexact H6
  isplitl [H7]; · iexact H7
  isplitl [H4]; · iexact H4
  iexact H5

theorem mid_end : iprop(mid m c d 3 ∗ (early m c d 0 ∗ early m c d 1 ∗ early m c d 2 ∗ early m c d 3)
      ∗ (late0 m c d 0 ∗ late1 m c d 0) ∗ (late0 m c d 1 ∗ late1 m c d 1) ∗ (late0 m c d 2 ∗ late1 m c d 2))
    ⊢ iprop((fly0 m c d 3 ∗ fly1 m c d 3) ∗ ((oidle c d 0 ∗ late0 m c d 3) -∗ (oidle c d 1 ∗ late1 m c d 3) -∗ dirEnd m c d)) := by
  unfold mid onward dirEnd chunkDone
  rw [if_neg (show ¬ (3 : Fin 4).val < 3 by decide)]
  iintro ⟨⟨H1, H2, H3, H4, H5⟩, ⟨E0, E1, E2, E3⟩, ⟨A0, B0⟩, ⟨A1, B1⟩, A2, B2⟩
  isplitl [H4 H5]
  · isplitl [H4]; · iexact H4
    iexact H5
  iintro ⟨O0, A3⟩
  iintro ⟨O1, B3⟩
  isplitl [H1]; · iexact H1
  isplitl [H2]; · iexact H2
  isplitl [H3]; · iexact H3
  isplitl [O0 O1]
  · isplitl [O0]; · iexact O0
    iexact O1
  isplitl [E0 A0 B0]
  · isplitl [E0]; · iexact E0
    isplitl [A0]; · iexact A0
    iexact B0
  isplitl [E1 A1 B1]
  · isplitl [E1]; · iexact E1
    isplitl [A1]; · iexact A1
    iexact B1
  isplitl [E2 A2 B2]
  · isplitl [E2]; · iexact E2
    isplitl [A2]; · iexact A2
    iexact B2
  isplitl [E3]; · iexact E3
  isplitl [A3]; · iexact A3
  iexact B3

/-- A fragment at the end of the body. -/
theorem wp_last {c : Dev nD} {P E : sProp 𝕄} {p : KProg F PUnit} (h : Spec c P p E) {Q : PUnit → sProp 𝕄} : P ⊢ iprop((E -∗ Q ⟨⟩) -∗ WP c p Q) := by
  have h' := h Pure.pure Q
  rw [bind_pure, Prog.pure_eq_ret] at h'
  refine BIBase.Entails.trans h' ?_
  iintro H Hk
  iapply H
  iintro HE
  unfold WP; rw [wp_ret]; imodintro
  iapply Hk; iexact HE

theorem body_spec {Q : PUnit → sProp 𝕄} :
    iprop(ctx m κ ∗ has c gamM (gamAt m c) ∗ dirStart m c 0 ∗ dirStart m c 1 ∗ hands c ∗ ow c (allDue c))
      ⊢ iprop(((has c gamM (gamAt m c) ∗ dirEnd m c 0 ∗ dirEnd m c 1 ∗ atPos ER (barCell c) 1 ∅ 0 ∗ ow c 0) -∗ Q ⟨⟩) -∗ WP c body Q) := by
  unfold body
  simp only [semSignalWord, semWaitWord, Prog.lift, Prog.bind_op, Prog.bind_ret, wp_deviceId]
  unfold dirStart hands
  iintro ⟨#Hctx, Hg, ⟨Hr, Hl, Hi, Ho, F0, F1, F2, F3⟩, ⟨Kr, Kl, Ki, Ko, G0, G1, G2, G3⟩, ⟨T0, T1, #R0, #R1, Hat, Hc⟩, ⟨%W, HO⟩⟩ Hk
  unfold idles
  icases Hi with ⟨Hi0, Hi1, Hi2, Hi3⟩
  icases Ki with ⟨Ki0, Ki1, Ki2, Ki3⟩
  ihave Hf := (idles3_ready c 0 0 0) $$ [Hi0 Hi1 Hi2]
  · isplitl [Hi0]; · iexact Hi0
    isplitl [Hi1]; · iexact Hi1
    iexact Hi2
  icases Hf with ⟨⟨Hi0, Hi1, Hi2⟩, #Hrdy⟩
  ihave Kf := (idles3_ready c 1 0 0) $$ [Ki0 Ki1 Ki2]
  · isplitl [Ki0]; · iexact Ki0
    isplitl [Ki1]; · iexact Ki1
    iexact Ki2
  icases Kf with ⟨⟨Ki0, Ki1, Ki2⟩, #Krdy⟩
  unfold ctx
  icases Hctx with ⟨#Hinv, #Hlev⟩
  -- both signals, each with the slots that the neighbour will write
  iapply (Rounds.wp_signal 𝒱₀ ER (Rd m) (c : Thread nD τ) none (dst := (nbrW c 0 : Thread nD τ)) (κ := κ (barCell (nbrW c 0)))
      (d := 0) (by rw [duties_bar]; exact Finset.mem_univ _) ((amount_bar m (nbrW c 0) 0 0).trans (by decide)) 0 (msgDue c + tallyAt (barCell (nbrW c 1)) 0 1) rfl) $$ [HO T0 Kl]
  · isplitr; · iapply (invs_bar m κ (nbrW c 0)); iexact Hinv
    isplitl [HO]; · iexact HO
    isplitl [T0]; · iexact T0
    isplitl [Kl]
    · iapply (pay_bar m c 0)
      isplitl [Kl]; · iexact Kl
      iexact Krdy
    iexact R0
  iintro HO
  iapply (Rounds.wp_signal 𝒱₀ ER (Rd m) (c : Thread nD τ) none (dst := (nbrW c 1 : Thread nD τ)) (κ := κ (barCell (nbrW c 1)))
      (d := 1) (by rw [duties_bar]; exact Finset.mem_univ _) ((amount_bar m (nbrW c 1) 0 1).trans (by decide)) 0 (msgDue c) rfl) $$ [HO T1 Hl]
  · isplitr; · iapply (invs_bar m κ (nbrW c 1)); iexact Hinv
    isplitl [HO]; · iexact HO
    isplitl [T1]; · iexact T1
    isplitl [Hl]
    · iapply (pay_bar m c 1)
      isplitl [Hl]; · iexact Hl
      iexact Hrdy
    iexact R1
  iintro HO
  -- the wait for both neighbours
  iapply (Rounds.wp_wait_rest_token 𝒱₀ ER (Rd m) (c : Thread nD τ) none (κ := κ (barCell c)) (wpE_semWait_eq 𝒱₀ (c : Thread nD τ) none Set.univ) (Set.mem_univ _) 0
      (O := msgDue c) (W := W) (R := 0) (m := 0) (T := ∅) (by rw [expect_bar]; decide)) $$ [Hc HO Hat]
  · isplitr; · iapply (invs_bar m κ c); iexact Hinv
    isplitl [Hc]; · iexact Hc
    isplitl [HO]; · iexact HO
    isplitr
    · iapply (mayWait c (.reg barS.sem) 0 (by decide) (above0 c)); iexact Hlev
    iexact Hat
  rw [rest_bar]
  iintro ⟨HO, Hat, -, B1, B0⟩
  -- the chunks
  iapply (first_spec m κ c (above1 c) _ _) $$ [Hg Hr Kr Hi0 Hi1 Hi2 Hi3 Ki0 Ki1 Ki2 Ki3 Ho Ko F0 G0 B0 B1 HO]
  · isplitr; · unfold ctx; isplitr; · iexact Hinv
               iexact Hlev
    isplitl [Hg]; · iexact Hg
    isplitl [Hr Hi0 Hi1 Hi2 Hi3 Ho F0 B0]
    · iapply (start_pre m c 0)
      isplitl [Hr]; · iexact Hr
      isplitl [B0]; · iexact B0
      isplitl [Hi0 Hi1 Hi2 Hi3]
      · unfold idles
        isplitl [Hi0]; · iexact Hi0
        isplitl [Hi1]; · iexact Hi1
        isplitl [Hi2]; · iexact Hi2
        iexact Hi3
      isplitl [Ho]; · iexact Ho
      iexact F0
    isplitl [Kr Ki0 Ki1 Ki2 Ki3 Ko G0 B1]
    · iapply (start_pre m c 1)
      isplitl [Kr]; · iexact Kr
      isplitl [B1]; · iexact B1
      isplitl [Ki0 Ki1 Ki2 Ki3]
      · unfold idles
        isplitl [Ki0]; · iexact Ki0
        isplitl [Ki1]; · iexact Ki1
        isplitl [Ki2]; · iexact Ki2
        iexact Ki3
      isplitl [Ko]; · iexact Ko
      iexact G0
    iexists _; iexact HO
  iintro ⟨Hg, HM, ⟨E00, E10⟩, HO⟩
  iapply (next_spec m κ c 0 1 rfl (above2 c) _ _) $$ [Hg HM F1 G1 HO]
  · isplitr; · unfold ctx; isplitr; · iexact Hinv
               iexact Hlev
    isplitl [Hg]; · iexact Hg
    isplitl [HM]; · iexact HM
    isplitl [F1]; · iexact F1
    isplitl [G1]; · iexact G1
    iexact HO
  iintro ⟨Hg, HM, ⟨E01, E11⟩, L00, L10, HO⟩
  iapply (next_spec m κ c 1 2 rfl (above3 c) _ _) $$ [Hg HM F2 G2 HO]
  · isplitr; · unfold ctx; isplitr; · iexact Hinv
               iexact Hlev
    isplitl [Hg]; · iexact Hg
    isplitl [HM]; · iexact HM
    isplitl [F2]; · iexact F2
    isplitl [G2]; · iexact G2
    iexact HO
  iintro ⟨Hg, HM, ⟨E02, E12⟩, L01, L11, HO⟩
  iapply (next_spec m κ c 2 3 rfl (Above.zero _) _ _) $$ [Hg HM F3 G3 HO]
  · isplitr; · unfold ctx; isplitr; · iexact Hinv
               iexact Hlev
    isplitl [Hg]; · iexact Hg
    isplitl [HM]; · iexact HM
    isplitl [F3]; · iexact F3
    isplitl [G3]; · iexact G3
    iexact HO
  iintro ⟨Hg, ⟨M0, M1⟩, ⟨E03, E13⟩, L02, L12, HO⟩
  -- the last copies out
  ihave M0' := (mid_end m c 0) $$ [M0 E00 E01 E02 E03 L00 L01 L02]
  · isplitl [M0]; · iexact M0
    isplitl [E00 E01 E02 E03]
    · isplitl [E00]; · iexact E00
      isplitl [E01]; · iexact E01
      isplitl [E02]; · iexact E02
      iexact E03
    isplitl [L00]; · iexact L00
    isplitl [L01]; · iexact L01
    iexact L02
  icases M0' with ⟨⟨Y0, Y1⟩, Hend⟩
  ihave M1' := (mid_end m c 1) $$ [M1 E10 E11 E12 E13 L10 L11 L12]
  · isplitl [M1]; · iexact M1
    isplitl [E10 E11 E12 E13]
    · isplitl [E10]; · iexact E10
      isplitl [E11]; · iexact E11
      isplitl [E12]; · iexact E12
      iexact E13
    isplitl [L10]; · iexact L10
    isplitl [L11]; · iexact L11
    iexact L12
  icases M1' with ⟨⟨Z0, Z1⟩, Kend⟩
  iapply (pend0 m κ c 0 3 0 (Above.zero 0) _ _) $$ [Y0 HO]
  · isplitr; · unfold ctx; isplitr; · iexact Hinv
               iexact Hlev
    isplitl [Y0]; · iexact Y0
    iexact HO
  iintro ⟨Y0, A0, HO⟩
  iapply (pend0 m κ c 1 3 0 (Above.zero 0) _ _) $$ [Z0 HO]
  · isplitr; · unfold ctx; isplitr; · iexact Hinv
               iexact Hlev
    isplitl [Z0]; · iexact Z0
    iexact HO
  iintro ⟨Z0, A1, HO⟩
  iapply (pend1 m κ c 0 3 0 (Above.zero 0) _ _) $$ [Y1 HO]
  · isplitr; · unfold ctx; isplitr; · iexact Hinv
               iexact Hlev
    isplitl [Y1]; · iexact Y1
    iexact HO
  iintro ⟨Y1, A2, HO⟩
  iapply (wp_last (pend1 m κ c 1 3 0 (Above.zero 0))) $$ [Z1 HO]
  · isplitr; · unfold ctx; isplitr; · iexact Hinv
               iexact Hlev
    isplitl [Z1]; · iexact Z1
    iexact HO
  iintro ⟨Z1, A3, HO⟩
  iapply Hk
  isplitl [Hg]; · iexact Hg
  isplitl [Hend Y0 A0 Y1 A2]
  · iapply Hend $$ [Y0 A0] [Y1 A2]
    · isplitl [Y0]; · iexact Y0
      iexact A0
    isplitl [Y1]; · iexact Y1
    iexact A2
  isplitl [Kend Z0 A1 Z1 A3]
  · iapply Kend $$ [Z0 A1] [Z1 A3]
    · isplitl [Z0]; · iexact Z0
      iexact A1
    isplitl [Z1]; · iexact Z1
    iexact A3
  isplitl [Hat]; · iexact Hat
  iexact HO

end Cert.Proof

end
-- ==== Proof.Slots.lean ====
/-
  A buffer as the conjunction of its slots, and the result array as that of the blocks of rows the kernel writes.
-/
module

public import proofs.«01_k».proof.Proof.Whole

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

omit [FloatOps F] in
theorem any_intro {sp : Space} {s : Shape} {e : EltTy} (c : Dev nD) (V : Memref sig .tc sp s e) (X : Vec F s e) : has c V X ⊢ any c V := by
  unfold any
  iintro H
  iexists X; iexact H

omit [FloatOps F] in
theorem any_sat {sp : Space} {s : Shape} {e : EltTy} (c : Dev nD) (V : Memref sig .tc sp s e) : any (F := F) c V ⊢ ownsSat (c : Thread nD τ) V fullShare fun _ => True := by
  unfold any
  iintro ⟨%X, H⟩
  iapply (ownsSat_intro (c : Thread nD τ) V fullShare (X := X) trivial); iexact H

/-! ## Uncutting a slot -/

section Squeeze

variable {sp : Space} {s s' : Shape} {e : EltTy} (c : Dev nD) (V : Memref sig .tc sp s e) (h : s.Squeezes s')

omit [FloatOps F] in
theorem any_squeeze : (any (F := F) c V : sProp 𝕄) ⊢ any c (V.squeeze s' h) := by
  unfold any has owns
  iintro ⟨%X, %f, %hf, H⟩
  iexists _, f
  isplitr; · ipureintro; rfl
  rw [show (V.squeeze s' h).view.set = V.view.set from View.set_reshape _ _]
  iexact H
omit [FloatOps F] in
theorem any_unsqueeze : (any (F := F) c (V.squeeze s' h) : sProp 𝕄) ⊢ any c V := by
  unfold any has owns
  rw [show (V.squeeze s' h).view.set = V.view.set from View.set_reshape _ _]
  iintro ⟨%X, %f, %hf, H⟩
  iexists _, f
  isplitr; · ipureintro; rfl
  iexact H

end Squeeze

section Split

variable {sp : Space} {s s' : Shape} {e : EltTy} (c : Dev nD) (M : Memref sig .tc sp s e)
variable {T : Type} [Fintype T] [DecidableEq T] (r : T → Rect s) (h1 : ∀ t a, (r t).stride a = 1)
  (hd : ∀ t t', t ≠ t' → Disjoint (r t).set (r t').set)
  (hcov : (Finset.univ : Finset T).biUnion (fun t => (r t).set) = Finset.univ)
include hd hcov

omit [FloatOps F] in
theorem any_split : (any (F := F) c M : sProp 𝕄) ⊢ bigSep Finset.univ fun t => any c (M.slice (r t) (h1 t)) := by
  unfold any
  iintro ⟨%X, H⟩
  iapply (show (owns (c : Thread nD τ) M fullShare X : sProp 𝕄) ⊢ bigSep Finset.univ fun t => any c (M.slice (r t) (h1 t)) from
    (owns_rects (c : Thread nD τ) M fullShare r h1 hd hcov X).trans (BI.bigSep_mono fun t _ => any_intro c _ _))
  iexact H

theorem any_join : bigSep Finset.univ (fun t => any (F := F) c (M.slice (r t) (h1 t))) ⊢ (any c M : sProp 𝕄) := by
  refine BIBase.Entails.trans (BI.bigSep_mono fun t _ => any_sat c _) (BIBase.Entails.trans (ownsSat_of_rects (c : Thread nD τ) M fullShare r h1 hd hcov fun _ _ => True) ?_)
  · refine (ownsSat_elim _ _ _ _).trans ?_
    unfold any has
    iintro ⟨%X, -, H⟩
    iexists X; iexact H

/-- Slices at known contents, joined: the whole reads each in its place. -/
theorem has_join (f : (t : T) → (r t).shape.Idx → Elt F e) :
    bigSep Finset.univ (fun t => has (F := F) c (M.slice (r t) (h1 t)) (f t)) ⊢ (iprop(∃ X, ⌜∀ t j, X ((r t).emb j) = f t j⌝ ∗ has c M X) : sProp 𝕄) := by
  refine BIBase.Entails.trans (BI.bigSep_mono fun t _ => ownsSat_intro (c : Thread nD τ) (M.slice (r t) (h1 t)) fullShare (Φ := fun X => X = f t) (X := f t) rfl)
    (BIBase.Entails.trans (ownsSat_of_rects (c : Thread nD τ) M fullShare r h1 hd hcov fun t X => X = f t) ?_)
  · refine (ownsSat_elim _ _ _ _).trans ?_
    iintro ⟨%X, %hX, H⟩
    iexists X
    isplitr; · ipureintro; exact fun t j => congrFun (hX t) j
    iexact H

omit hd hcov in
omit [FloatOps F] in
theorem whole_any {b : Ref sig .tc} : (iprop(∃ f : Buf (Elt F) ((c : Thread nD τ).loc b), ((c : Thread nD τ).loc b) ↦{fullShare} f) : sProp 𝕄) = any c (Memref.whole b) := by
  unfold any has
  simp only [owns_whole]

end Split

/-! ## The slots of each scratch buffer -/

theorem unit_cover {s : Shape} {T : Type} [Fintype T] (off : T → Fin s.rank → Nat) (size : Fin s.rank → Nat) (inb : ∀ t a, off t a + size a ≤ s.size a)
    (h : ∀ i : s.Idx, ∃ t, ∀ a, off t a ≤ i a ∧ (i a : Nat) < off t a + size a) :
    (Finset.univ : Finset T).biUnion (fun t => (Rect.unit (s := s) (off t) size (inb t)).set) = Finset.univ := by
  ext i
  simp only [Finset.mem_biUnion, Finset.mem_univ, true_and, iff_true]
  obtain ⟨t, ht⟩ := h i
  exact ⟨t, Rect.mem_set_unit.mpr ht⟩

section Families

theorem lead_disjoint {n : ℕ} (t t' : Fin 2 × Fin n) (h : t ≠ t') : t.1.val + 1 ≤ t'.1.val ∨ t'.1.val + 1 ≤ t.1.val ∨ t.2.val + 1 ≤ t'.2.val ∨ t'.2.val + 1 ≤ t.2.val := by
  by_contra hc
  exact h (Prod.ext (Fin.ext (by omega)) (Fin.ext (by omega)))

theorem dis22 (t t' : Fin 2 × Fin 2) (h : t ≠ t') : Disjoint (r22 t.1 t.2).set (r22 t'.1 t'.2).set := by
  rcases lead_disjoint t t' h with h | h | h | h
  exacts [Rect.unit_disjoint 0 (.inl h), Rect.unit_disjoint 0 (.inr h), Rect.unit_disjoint 1 (.inl h), Rect.unit_disjoint 1 (.inr h)]
theorem dis23 (t t' : Fin 2 × Fin 3) (h : t ≠ t') : Disjoint (r23 t.1 t.2).set (r23 t'.1 t'.2).set := by
  rcases lead_disjoint t t' h with h | h | h | h
  exacts [Rect.unit_disjoint 0 (.inl h), Rect.unit_disjoint 0 (.inr h), Rect.unit_disjoint 1 (.inl h), Rect.unit_disjoint 1 (.inr h)]
theorem dis24 (t t' : Fin 2 × Fin 4) (h : t ≠ t') : Disjoint (r24 t.1 t.2).set (r24 t'.1 t'.2).set := by
  rcases lead_disjoint t t' h with h | h | h | h
  exacts [Rect.unit_disjoint 0 (.inl h), Rect.unit_disjoint 0 (.inr h), Rect.unit_disjoint 1 (.inl h), Rect.unit_disjoint 1 (.inr h)]
theorem dis2 (t t' : Fin 2) (h : t ≠ t') : Disjoint (r2 t).set (r2 t').set :=
  Rect.unit_disjoint 0 (show t.val + 1 ≤ t'.val ∨ t'.val + 1 ≤ t.val by have := Fin.val_ne_of_ne h; omega)

theorem cov22 : (Finset.univ : Finset (Fin 2 × Fin 2)).biUnion (fun t => (r22 t.1 t.2).set) = Finset.univ :=
  unit_cover _ _ _ fun i => ⟨(i 0, i 1), fun a => by
    have h2 : (i 2).val < 256 := (i 2).isLt
    have h3 : (i 3).val < 2048 := (i 3).isLt
    fin_cases a <;> simp <;> assumption⟩
theorem cov23 : (Finset.univ : Finset (Fin 2 × Fin 3)).biUnion (fun t => (r23 t.1 t.2).set) = Finset.univ :=
  unit_cover _ _ _ fun i => ⟨(i 0, i 1), fun a => by
    have h2 : (i 2).val < 256 := (i 2).isLt
    have h3 : (i 3).val < 2048 := (i 3).isLt
    fin_cases a <;> simp <;> assumption⟩
theorem cov24 : (Finset.univ : Finset (Fin 2 × Fin 4)).biUnion (fun t => (r24 t.1 t.2).set) = Finset.univ :=
  unit_cover _ _ _ fun i => ⟨(i 0, i 1), fun a => by
    have h2 : (i 2).val < 256 := (i 2).isLt
    have h3 : (i 3).val < 2048 := (i 3).isLt
    fin_cases a <;> simp <;> assumption⟩
theorem cov2 : (Finset.univ : Finset (Fin 2)).biUnion (fun t => (r2 t).set) = Finset.univ :=
  unit_cover _ _ _ fun i => ⟨i 0, fun a => by
    have h2 : (i 1).val < 256 := (i 1).isLt
    have h3 : (i 2).val < 2048 := (i 2).isLt
    fin_cases a <;> simp <;> assumption⟩

end Families

/-! ## The result's blocks -/

/-- Direction, chunk, and which of the chunk's blocks: the one the device finishes, or the one that step brings. -/
abbrev Blk : Type := Fin 2 × Fin 4 × Fin 4

def offB (c : Dev nD) : Blk → Fin 2 → Nat
  | (d, ch, 0) => offOwn c d ch
  | (d, ch, 1) => offAg c d ch 0
  | (d, ch, 2) => offAg c d ch 1
  | (d, ch, 3) => offAg c d ch 2
theorem offB_in (c : Dev nD) : ∀ t, InR (offB c t)
  | (d, ch, 0) => offOwn_in c d ch
  | (d, ch, 1) => offAg_in c d ch 0
  | (d, ch, 2) => offAg_in c d ch 1
  | (d, ch, 3) => offAg_in c d ch 2

/-- Which of the chunk's four blocks of 256 rows. -/
def seg (z : ℕ) : Fin 2 → Fin 4 → ℕ
  | 0, j => (z + 5 - j.val) % 4
  | 1, j => (z + 3 + j.val) % 4
theorem offB_row (c : Dev nD) (t : Blk) : offB c t 0 = 4096 * t.1.val + 1024 * t.2.1.val + 256 * seg (c.val % 4) t.1 t.2.2 := by
  revert c t; decide +kernel
theorem offB_col (c : Dev nD) (t : Blk) : offB c t 1 = 0 := by revert c t; decide +kernel

theorem seg_lt (z : ℕ) (d : Fin 2) (j : Fin 4) : seg z d j < 4 := by
  unfold seg; split <;> exact Nat.mod_lt _ (by decide)
theorem seg_inj {z : ℕ} {d : Fin 2} {j j' : Fin 4} (h : seg z d j = seg z d j') : j = j' := by
  have := j.isLt; have := j'.isLt
  refine Fin.ext ?_
  unfold seg at h; fin_cases d <;> simp only at h <;> omega
theorem seg_surj (z : ℕ) (d : Fin 2) (u : ℕ) (hu : u < 4) : ∃ j, seg z d j = u := by
  unfold seg; fin_cases d
  · exact ⟨⟨(z + 5 + 4 - u) % 4, Nat.mod_lt _ (by decide)⟩, by simp only; omega⟩
  · exact ⟨⟨(u + 4 * z + 1 - z) % 4, Nat.mod_lt _ (by decide)⟩, by simp only; omega⟩

abbrev rOut (c : Dev nD) (t : Blk) : Rect S8192x2048 := Rect.unit (s := S8192x2048) (offB c t) S256x2048.size (offB_in c t)

theorem disOut (c : Dev nD) (t t' : Blk) (h : t ≠ t') : Disjoint (rOut c t).set (rOut c t').set := by
  refine Rect.unit_disjoint 0 ?_
  show offB c t 0 + 256 ≤ offB c t' 0 ∨ offB c t' 0 + 256 ≤ offB c t 0
  rw [offB_row, offB_row]
  obtain ⟨d, ch, j⟩ := t; obtain ⟨d', ch', j'⟩ := t'
  have a := seg_lt (c.val % 4) d j; have a' := seg_lt (c.val % 4) d' j'
  have := ch.isLt; have := ch'.isLt
  dsimp only
  by_contra hc
  have e1 : d = d' := Fin.ext (by omega)
  have e2 : ch = ch' := Fin.ext (by omega)
  subst e1 e2
  have e3 : j = j' := seg_inj (z := c.val % 4) (d := d) (by omega)
  subst e3; exact h rfl

/-- Every row lies in a block. -/
theorem blk_of (c : Dev nD) (i : ℕ) (hi : i < 8192) : ∃ t : Blk, offB c t 0 ≤ i ∧ i < offB c t 0 + 256 := by
  obtain ⟨j, hj⟩ := seg_surj (c.val % 4) ⟨i / 4096, by omega⟩ (i / 256 % 4) (by omega)
  refine ⟨(⟨i / 4096, by omega⟩, ⟨i / 1024 % 4, by omega⟩, j), ?_⟩
  rw [offB_row, hj]
  dsimp only
  omega

theorem covOut (c : Dev nD) : (Finset.univ : Finset Blk).biUnion (fun t => (rOut c t).set) = Finset.univ :=
  unit_cover _ _ _ fun i => by
    obtain ⟨t, h, h'⟩ := blk_of c (i 0).val (i 0).isLt
    refine ⟨t, fun a => ?_⟩
    have h3 : (i 1).val < 2048 := (i 1).isLt
    fin_cases a
    · exact ⟨h, h'⟩
    · show offB c t 1 ≤ _ ∧ _ < offB c t 1 + 2048
      rw [offB_col]; exact ⟨Nat.zero_le _, by simpa using h3⟩

variable (m : (ℓ : Loc nD τ sig) → Buf (Elt F) ℓ)

/-- What the run writes in a block. -/
def outB (c : Dev nD) : Blk → Vec F S256x2048 .f32
  | (d, ch, 0) => ownOut m d ch c
  | (d, ch, 1) => agOut m d ch 0 c
  | (d, ch, 2) => agOut m d ch 1 c
  | (d, ch, 3) => agOut m d ch 2 c

end Cert.Proof

end
-- ==== Proof.Ends.lean ====
/-
  A device at the start of the body and at its end: its whole buffers dealt to the two directions, and gathered again.
-/
module

public import proofs.«01_k».proof.Proof.Slots

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)

/-! ## Short conjunctions -/

omit [FloatOps F] in
theorem over2 (Φ : Fin 2 → sProp 𝕄) : bigSep Finset.univ Φ = iprop(Φ 0 ∗ Φ 1) := bigSep_univ_eq_bigSepL [0, 1] (by decide) (by decide) Φ
omit [FloatOps F] in
theorem over3 (Φ : Fin 3 → sProp 𝕄) : bigSep Finset.univ Φ = iprop(Φ 0 ∗ Φ 1 ∗ Φ 2) := bigSep_univ_eq_bigSepL [0, 1, 2] (by decide) (by decide) Φ
omit [FloatOps F] in
theorem over4 (Φ : Fin 4 → sProp 𝕄) : bigSep Finset.univ Φ = iprop(Φ 0 ∗ Φ 1 ∗ Φ 2 ∗ Φ 3) := bigSep_univ_eq_bigSepL [0, 1, 2, 3] (by decide) (by decide) Φ

/-- A conjunction over the channels of a direction, -/
def six (Φ : Chan → sProp 𝕄) (d : Fin 2) : sProp 𝕄 := iprop((Φ (0, d, 0) ∗ Φ (0, d, 1) ∗ Φ (0, d, 2)) ∗ Φ (1, d, 0) ∗ Φ (1, d, 1) ∗ Φ (1, d, 2))

omit [FloatOps F] in
theorem overChan (Φ : Chan → sProp 𝕄) : bigSep Finset.univ Φ = bigSep Finset.univ fun d => six Φ d := by
  unfold six
  rw [bigSep_sep', bigSep_univ_prod, over2]
  rw [bigSep_univ_prod, bigSep_univ_prod]
  simp only [over3]

/-! ## The scratch buffers -/

section Scratch

variable (c : Dev nD)

def any2 {e : EltTy} (M : Memref sig .tc .vmem S2x2x256x2048 e) (d : Fin 2) : sProp 𝕄 :=
  iprop(any c ((M.slice (r22 d 0) (fun _ => rfl)).squeeze S256x2048 squeezes_S1x1x256x2048_S256x2048) ∗ any c ((M.slice (r22 d 1) (fun _ => rfl)).squeeze S256x2048 squeezes_S1x1x256x2048_S256x2048))
def any3 {e : EltTy} (M : Memref sig .tc .vmem S2x3x256x2048 e) (d : Fin 2) : sProp 𝕄 :=
  iprop(any c ((M.slice (r23 d 0) (fun _ => rfl)).squeeze S256x2048 squeezes_S1x1x256x2048_S256x2048) ∗ any c ((M.slice (r23 d 1) (fun _ => rfl)).squeeze S256x2048 squeezes_S1x1x256x2048_S256x2048)
    ∗ any c ((M.slice (r23 d 2) (fun _ => rfl)).squeeze S256x2048 squeezes_S1x1x256x2048_S256x2048))
def any4 {e : EltTy} (M : Memref sig .tc .vmem S2x4x256x2048 e) (d : Fin 2) : sProp 𝕄 :=
  iprop(any c ((M.slice (r24 d 0) (fun _ => rfl)).squeeze S256x2048 squeezes_S1x1x256x2048_S256x2048) ∗ any c ((M.slice (r24 d 1) (fun _ => rfl)).squeeze S256x2048 squeezes_S1x1x256x2048_S256x2048)
    ∗ any c ((M.slice (r24 d 2) (fun _ => rfl)).squeeze S256x2048 squeezes_S1x1x256x2048_S256x2048) ∗ any c ((M.slice (r24 d 3) (fun _ => rfl)).squeeze S256x2048 squeezes_S1x1x256x2048_S256x2048))
def any1 {e : EltTy} (M : Memref sig .tc .vmem S2x256x2048 e) (d : Fin 2) : sProp 𝕄 :=
  any c ((M.slice (r2 d) (fun _ => rfl)).squeeze S256x2048 squeezes_S1x256x2048_S256x2048)

theorem slots2 {e : EltTy} (M : Memref sig .tc .vmem S2x2x256x2048 e) : (any (F := F) c M : sProp 𝕄) ⊣⊢ bigSep Finset.univ fun d => any2 c M d := by
  have e1 : (bigSep Finset.univ fun d => any2 (F := F) c M d : sProp 𝕄)
      = bigSep Finset.univ fun t : Fin 2 × Fin 2 => any c ((M.slice (r22 t.1 t.2) (fun _ => rfl)).squeeze S256x2048 squeezes_S1x1x256x2048_S256x2048) := by
    unfold any2; rw [bigSep_univ_prod]; simp only [over2]
  rw [e1]
  exact ⟨(any_split c M (fun t : Fin 2 × Fin 2 => r22 t.1 t.2) (fun _ _ => rfl) dis22 cov22).trans (BI.bigSep_mono fun t _ => any_squeeze c _ _),
    BIBase.Entails.trans (BI.bigSep_mono fun t _ => any_unsqueeze c _ _) (any_join c M (fun t : Fin 2 × Fin 2 => r22 t.1 t.2) (fun _ _ => rfl) dis22 cov22)⟩
theorem slots3 {e : EltTy} (M : Memref sig .tc .vmem S2x3x256x2048 e) : (any (F := F) c M : sProp 𝕄) ⊣⊢ bigSep Finset.univ fun d => any3 c M d := by
  have e1 : (bigSep Finset.univ fun d => any3 (F := F) c M d : sProp 𝕄)
      = bigSep Finset.univ fun t : Fin 2 × Fin 3 => any c ((M.slice (r23 t.1 t.2) (fun _ => rfl)).squeeze S256x2048 squeezes_S1x1x256x2048_S256x2048) := by
    unfold any3; rw [bigSep_univ_prod]; simp only [over3]
  rw [e1]
  exact ⟨(any_split c M (fun t : Fin 2 × Fin 3 => r23 t.1 t.2) (fun _ _ => rfl) dis23 cov23).trans (BI.bigSep_mono fun t _ => any_squeeze c _ _),
    BIBase.Entails.trans (BI.bigSep_mono fun t _ => any_unsqueeze c _ _) (any_join c M (fun t : Fin 2 × Fin 3 => r23 t.1 t.2) (fun _ _ => rfl) dis23 cov23)⟩
theorem slots4 {e : EltTy} (M : Memref sig .tc .vmem S2x4x256x2048 e) : (any (F := F) c M : sProp 𝕄) ⊣⊢ bigSep Finset.univ fun d => any4 c M d := by
  have e1 : (bigSep Finset.univ fun d => any4 (F := F) c M d : sProp 𝕄)
      = bigSep Finset.univ fun t : Fin 2 × Fin 4 => any c ((M.slice (r24 t.1 t.2) (fun _ => rfl)).squeeze S256x2048 squeezes_S1x1x256x2048_S256x2048) := by
    unfold any4; rw [bigSep_univ_prod]; simp only [over4]
  rw [e1]
  exact ⟨(any_split c M (fun t : Fin 2 × Fin 4 => r24 t.1 t.2) (fun _ _ => rfl) dis24 cov24).trans (BI.bigSep_mono fun t _ => any_squeeze c _ _),
    BIBase.Entails.trans (BI.bigSep_mono fun t _ => any_unsqueeze c _ _) (any_join c M (fun t : Fin 2 × Fin 4 => r24 t.1 t.2) (fun _ _ => rfl) dis24 cov24)⟩
theorem slots1 {e : EltTy} (M : Memref sig .tc .vmem S2x256x2048 e) : (any (F := F) c M : sProp 𝕄) ⊣⊢ bigSep Finset.univ fun d => any1 c M d :=
  ⟨(any_split c M r2 (fun _ _ => rfl) dis2 cov2).trans (BI.bigSep_mono fun t _ => any_squeeze c _ _),
    BIBase.Entails.trans (BI.bigSep_mono fun t _ => any_unsqueeze c _ _) (any_join c M r2 (fun _ _ => rfl) dis2 cov2)⟩

/-- A direction's slots of all six scratch buffers. -/
def bufs (d : Fin 2) : sProp 𝕄 := iprop(any2 c sendM d ∗ any3 c recvM d ∗ any4 c agM d ∗ any2 c pstM d ∗ any1 c rstM d ∗ any2 c ostM d)
def scratch : sProp 𝕄 := iprop(any c sendM ∗ any c recvM ∗ any c agM ∗ any c pstM ∗ any c rstM ∗ any c ostM)

theorem scratch_split : (scratch (F := F) c : sProp 𝕄) ⊣⊢ bigSep Finset.univ fun d => bufs c d := by
  unfold scratch bufs
  simp only [bigSep_sep']
  exact sep_congr (slots2 c _) (sep_congr (slots3 c _) (sep_congr (slots4 c _) (sep_congr (slots2 c _) (sep_congr (slots1 c _) (slots2 c _)))))

theorem scratch_eq : (Pipeline.scopedRest (Ix := ℕ) (Name := ℕ) (U := UU) (Lvl := ℕ) (Val := Elt F) cfg0.spec c : sProp 𝕄) = scratch c := by
  rw [scopedRest0_eq]
  unfold scratch
  simp only [whole_any]
  rfl

end Scratch

/-! ## The arguments' shares -/

section Args

variable (c : Dev nD)

/-- A direction's shares. -/
def args (d : Fin 2) : sProp 𝕄 := iprop((parts m c (pq d 0) ∗ parts m c (pq d 1)) ∗ resid m c (rq d))

theorem halves {ℓ : Loc nD τ sig} {q : PosShare TreeShare} {f : Buf (Elt F) ℓ} :
    (iprop(ℓ ↦{q} f) : sProp 𝕄) ⊣⊢ iprop((ℓ ↦{halfOf q 0} f) ∗ (ℓ ↦{halfOf q 1} f)) := pointsTo_share (PosShare.mem_left_op_right q)

theorem args_split : iprop(parts m c fullShare ∗ resid m c fullShare) ⊣⊢ (bigSep Finset.univ fun d => args m c d : sProp 𝕄) := by
  unfold args
  rw [bigSep_sep', over2, over2]
  exact sep_congr (halves.trans (sep_congr halves halves)) halves

end Args

/-! ## The local copies' semaphores -/

/-- The semaphores of the local copies: staged partial sums, residual, output. -/
abbrev Loc3 : Type := (Fin 2 × Fin 2) ⊕ Fin 2 ⊕ (Fin 2 × Fin 2)
def lS : Loc3 → DmaSem sig
  | .inl t => (pstS t.1 t.2).sem
  | .inr (.inl d) => (rstS d).sem
  | .inr (.inr t) => (ostS t.1 t.2).sem

section Sems

variable (c : Dev nD)

def lsems (d : Fin 2) : sProp 𝕄 := iprop((bigSep Finset.univ fun s : Fin 2 => semVal ((c : Thread nD τ), .dma (pstS d s).sem) 0) ∗ semVal ((c : Thread nD τ), .dma (rstS d).sem) 0
  ∗ bigSep Finset.univ fun s : Fin 2 => semVal ((c : Thread nD τ), .dma (ostS d s).sem) 0)

omit [FloatOps F] in
theorem lsems_split : (bigSep Finset.univ fun l : Loc3 => semVal ((c : Thread nD τ), .dma (lS l)) 0 : sProp 𝕄) = bigSep Finset.univ fun d => lsems c d := by
  unfold lsems
  rw [bigSep_univ_sum, bigSep_univ_sum, bigSep_univ_prod, bigSep_univ_prod, bigSep_sep', bigSep_sep']
  rfl

end Sems

/-! ## The result's rows -/

section Rows

variable (c : Dev nD)

/-- A direction's rows, not yet written; written. -/
def rows (d : Fin 2) : sProp 𝕄 := iprop(outs c d 0 ∗ outs c d 1 ∗ outs c d 2 ∗ outs c d 3)
def rowsDone (d : Fin 2) : sProp 𝕄 := iprop(chunkDone m c d 0 ∗ chunkDone m c d 1 ∗ chunkDone m c d 2 ∗ chunkDone m c d 3)

theorem rows_split : (any (F := F) c outM : sProp 𝕄) ⊢ bigSep Finset.univ fun d => rows c d := by
  refine (any_split c outM (rOut c) (fun _ _ => rfl) (disOut c) (covOut c)).trans (Entails.of_eq ?_)
  unfold rows outs
  rw [bigSep_univ_prod]
  refine bigSep_congr fun d _ => ?_
  rw [bigSep_univ_prod, over4]
  simp only [over4]
  rfl

/-- The result array, each block holding what the run writes in it. -/
def result : sProp 𝕄 := iprop(∃ X : Vec F S8192x2048 .f32, ⌜∀ t j, X ((rOut c t).emb j) = outB m c t j⌝ ∗ ((c : Thread nD τ).loc main_v1) ↦{fullShare} X)

omit [FloatOps F] in
theorem done_shape {A B C D : sProp 𝕄} : iprop((A ∗ B) ∗ C ∗ D) ⊢ iprop(A ∗ B ∗ C ∗ D) := by
  iintro ⟨⟨H1, H2⟩, H3, H4⟩
  isplitl [H1]; · iexact H1
  isplitl [H2]; · iexact H2
  isplitl [H3]; · iexact H3
  iexact H4

theorem rows_join : (bigSep Finset.univ fun d => rowsDone m c d) ⊢ result m c := by
  have e1 : (bigSep Finset.univ fun t : Blk => has c (outM.slice (rOut c t) (fun _ => rfl)) (outB m c t) : sProp 𝕄)
      = bigSep Finset.univ fun d : Fin 2 => bigSep Finset.univ fun ch : Fin 4 => iprop(has c (outV (offOwn c d ch) (offOwn_in c d ch)) (ownOut m d ch c)
        ∗ has c (outV (offAg c d ch 0) (offAg_in c d ch 0)) (agOut m d ch 0 c) ∗ late0 m c d ch ∗ late1 m c d ch) := by
    unfold late0 late1
    rw [bigSep_univ_prod]
    refine bigSep_congr fun d _ => ?_
    rw [bigSep_univ_prod]
    simp only [over4]
    rfl
  have h1 : ∀ d : Fin 2, rowsDone m c d ⊢ bigSep Finset.univ fun ch : Fin 4 => iprop(has c (outV (offOwn c d ch) (offOwn_in c d ch)) (ownOut m d ch c)
        ∗ has c (outV (offAg c d ch 0) (offAg_in c d ch 0)) (agOut m d ch 0 c) ∗ late0 m c d ch ∗ late1 m c d ch) := fun d => by
    unfold rowsDone chunkDone early
    rw [over4]
    exact BI.sep_mono done_shape (BI.sep_mono done_shape (BI.sep_mono done_shape done_shape))
  refine BIBase.Entails.trans (BI.bigSep_mono fun d _ => h1 d) ?_
  rw [← e1]
  refine (has_join c outM (rOut c) (fun _ _ => rfl) (disOut c) (covOut c) (outB m c)).trans ?_
  unfold result has
  simp only [owns_whole]
  exact .rfl

end Rows

/-! ## A direction at the start and at the end -/

section Dir

variable (c : Dev nD) (d : Fin 2)

/-- A direction's rights in all four chunks. -/
def allRights : sProp 𝕄 := iprop(rights c d 0 ∗ rights c d 1 ∗ rights c d 2 ∗ rights c d 3)

theorem dirStart_intro : iprop(bufs c d ∗ args m c d ∗ lsems c d ∗ rows c d ∗ six (fun x => idle c x 0) d ∗ allRights c d) ⊢ dirStart m c d := by
  unfold bufs any1 any2 any3 any4 args lsems rows six allRights dirStart rest pidle ridle oidle lot idles fuel
  simp only [over2]
  iintro ⟨⟨⟨S0, S1⟩, Hrecv, ⟨A0, Hag⟩, ⟨P0, P1⟩, R, ⟨O0, O1⟩⟩, ⟨⟨p0, p1⟩, r⟩, ⟨⟨vp0, vp1⟩, vr, vo0, vo1⟩, ⟨w0, w1, w2, w3⟩, ⟨⟨i0, i1, i2⟩, i3, i4, i5⟩, t0, t1, t2, t3⟩
  isplitl [S0 S1 A0 Hag P0 P1 R p0 p1 r vp0 vp1 vr]
  · isplitl [P0 p0 vp0]
    · isplitl [p0]; · iexact p0
      isplitl [P0]; · iexact P0
      iexact vp0
    isplitl [P1 p1 vp1]
    · isplitl [p1]; · iexact p1
      isplitl [P1]; · iexact P1
      iexact vp1
    isplitl [R r vr]
    · isplitl [r]; · iexact r
      isplitl [R]; · iexact R
      iexact vr
    isplitl [S0]; · iexact S0
    isplitl [S1]; · iexact S1
    isplitl [A0]; · iexact A0
    iexact Hag
  isplitl [Hrecv]; · iexact Hrecv
  isplitl [i0 i1 i2 i3 i4 i5]
  · isplitl [i0]; · iexact i0
    isplitl [i1]; · iexact i1
    isplitl [i2]; · iexact i2
    isplitl [i3]; · iexact i3
    isplitl [i4]; · iexact i4
    iexact i5
  isplitl [O0 O1 vo0 vo1]
  · isplitl [O0 vo0]
    · isplitl [O0]; · iexact O0
      iexact vo0
    isplitl [O1]; · iexact O1
    iexact vo1
  isplitl [t0 w0]
  · isplitl [t0]; · iexact t0
    iexact w0
  isplitl [t1 w1]
  · isplitl [t1]; · iexact t1
    iexact w1
  isplitl [t2 w2]
  · isplitl [t2]; · iexact t2
    iexact w2
  isplitl [t3]; · iexact t3
  iexact w3

theorem dirEnd_elim : dirEnd m c d ⊢ iprop(bufs c d ∗ args m c d ∗ lsems c d ∗ rowsDone m c d ∗ six (fun x => idle c x 4) d) := by
  unfold bufs any1 any2 any3 any4 args lsems six dirEnd rest pidle ridle oidle lot idles rowsDone
  simp only [over2]
  iintro ⟨⟨⟨p0, P0, vp0⟩, ⟨p1, P1, vp1⟩, ⟨r, R, vr⟩, S0, S1, A0, Hag⟩, Hrecv, ⟨i0, i1, i2, i3, i4, i5⟩, ⟨⟨O0, vo0⟩, O1, vo1⟩, Hout⟩
  isplitl [S0 S1 Hrecv A0 Hag P0 P1 R O0 O1]
  · isplitl [S0 S1]
    · isplitl [S0]; · iexact S0
      iexact S1
    isplitl [Hrecv]; · iexact Hrecv
    isplitl [A0 Hag]
    · isplitl [A0]; · iexact A0
      iexact Hag
    isplitl [P0 P1]
    · isplitl [P0]; · iexact P0
      iexact P1
    isplitl [R]; · iexact R
    isplitl [O0]; · iexact O0
    iexact O1
  isplitl [p0 p1 r]
  · isplitl [p0 p1]
    · isplitl [p0]; · iexact p0
      iexact p1
    iexact r
  isplitl [vp0 vp1 vr vo0 vo1]
  · isplitl [vp0 vp1]
    · isplitl [vp0]; · iexact vp0
      iexact vp1
    isplitl [vr]; · iexact vr
    isplitl [vo0]; · iexact vo0
    iexact vo1
  isplitl [Hout]; · iexact Hout
  isplitl [i0 i1 i2]
  · isplitl [i0]; · iexact i0
    isplitl [i1]; · iexact i1
    iexact i2
  isplitl [i3]; · iexact i3
  isplitl [i4]; · iexact i4
  iexact i5

end Dir

end Cert.Proof

end
-- ==== Proof.Setup.lean ====
/-
  The set-up of the launch: the cells and the duties of the rounds, dealt to the devices, and the credit of what they owe.
-/
module

public import proofs.«01_k».proof.Proof.Ends

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ)

/-! ## The cells -/

/-- A device's cells: its barrier's, its send semaphores', its receive semaphores'. -/
abbrev Kind : Type := Unit ⊕ (Chan ⊕ Chan)
def kSem : Kind → SemLoc sig
  | .inl _ => .reg barS.sem
  | .inr (.inl x) => .dma (sS x)
  | .inr (.inr x) => .dma (rS x)
theorem kSem_inj : Function.Injective kSem := by
  rintro (a | a | a) (b | b | b) h
  · rfl
  · cases h
  · cases h
  · cases h
  · rw [sS_inj (SemLoc.dma.inj h)]
  · exact absurd (SemLoc.dma.inj h) (sS_ne_rS a b)
  · cases h
  · exact absurd (SemLoc.dma.inj h).symm (sS_ne_rS b a)
  · rw [rS_inj (SemLoc.dma.inj h)]

abbrev kCell (ck : Dev nD × Kind) : GSem nD τ sig := ((ck.1 : Thread nD τ), kSem ck.2)
theorem kCell_inj : Function.Injective kCell := by
  rintro ⟨c, k⟩ ⟨c', k'⟩ h
  have h1 : c = c' := congrArg (fun g : GSem nD τ sig => g.1.1) h
  have h2 : k = k' := kSem_inj (congrArg Prod.snd h)
  rw [h1, h2]
def cells : Finset (GSem nD τ sig) := Finset.univ.map ⟨kCell, kCell_inj⟩

/-- A conjunction over a device's cells. -/
def atCells (Φ : GSem nD τ sig → sProp 𝕄) (c : Dev nD) : sProp 𝕄 :=
  iprop(Φ (barCell c) ∗ (bigSep Finset.univ fun x : Chan => Φ (sCell c x)) ∗ bigSep Finset.univ fun x : Chan => Φ (rCell c x))

omit [FloatOps F] in
theorem overUnit (Φ : Unit → sProp 𝕄) : bigSep Finset.univ Φ = Φ () := bigSep_univ_eq_bigSepL [()] (by decide) (by decide) Φ

omit [FloatOps F] in
theorem overCells (Φ : GSem nD τ sig → sProp 𝕄) : bigSep cells Φ = bigSep Finset.univ fun c : Dev nD => atCells Φ c := by
  unfold cells atCells
  rw [bigSep_map, bigSep_univ_prod]
  refine bigSep_congr fun c _ => ?_
  rw [bigSep_univ_sum, bigSep_univ_sum, overUnit]
  rfl

/-! ## The duties -/

/-- A device's cells' duties as minted: its barrier's two, its channels' in the four chunks. -/
abbrev Duty : Type := Fin 2 ⊕ ((Fin 4 × Chan) ⊕ (Fin 4 × Chan))
def tokOf : Dev nD × Duty → GSem nD τ sig × ℕ × Fin 2
  | (c, .inl d) => (barCell c, 0, d)
  | (c, .inr (.inl t)) => (sCell c t.2, t.1.val, 0)
  | (c, .inr (.inr t)) => (rCell c t.2, t.1.val, 0)
theorem tokOf_inj : Function.Injective tokOf := by
  have hd : ∀ {a b : GSem nD τ sig × ℕ × Fin 2}, a = b → a.1.1.1 = b.1.1.1 := fun h => congrArg (fun g : GSem nD τ sig × ℕ × Fin 2 => g.1.1.1) h
  have hs : ∀ {a b : GSem nD τ sig × ℕ × Fin 2}, a = b → a.1.2 = b.1.2 := fun h => congrArg (fun g : GSem nD τ sig × ℕ × Fin 2 => g.1.2) h
  have hr : ∀ {a b : GSem nD τ sig × ℕ × Fin 2}, a = b → a.2 = b.2 := fun h => congrArg (fun g : GSem nD τ sig × ℕ × Fin 2 => g.2) h
  rintro ⟨c, d | ⟨r, x⟩ | ⟨r, x⟩⟩ ⟨c', d' | ⟨r', x'⟩ | ⟨r', x'⟩⟩ h
  · have h1 : c = c' := hd h
    have h2 : d = d' := congrArg Prod.snd (hr h)
    rw [h1, h2]
  · have h2 := hs h; cases h2
  · have h2 := hs h; cases h2
  · have h2 := hs h; cases h2
  · have h1 : c = c' := hd h
    have h2 : x = x' := sS_inj (SemLoc.dma.inj (hs h))
    have h3 : r = r' := Fin.ext (congrArg Prod.fst (hr h))
    rw [h1, h2, h3]
  · exact absurd (SemLoc.dma.inj (hs h)) (sS_ne_rS x x')
  · have h2 := hs h; cases h2
  · exact absurd (SemLoc.dma.inj (hs h)).symm (sS_ne_rS x' x)
  · have h1 : c = c' := hd h
    have h2 : x = x' := rS_inj (SemLoc.dma.inj (hs h))
    have h3 : r = r' := Fin.ext (congrArg Prod.fst (hr h))
    rw [h1, h2, h3]
def toks : Finset (GSem nD τ sig × ℕ × Fin 2) := Finset.univ.map ⟨tokOf, tokOf_inj⟩

/-- The tokens of a device's own cells' duties; -/
def ownToks (c : Dev nD) : sProp 𝕄 :=
  iprop((dutyTok ER (barCell c) 0 0 ∗ dutyTok ER (barCell c) 0 1) ∗ (bigSep Finset.univ fun t : Fin 4 × Chan => dutyTok ER (sCell c t.2) t.1.val 0)
    ∗ bigSep Finset.univ fun t : Fin 4 × Chan => dutyTok ER (rCell c t.2) t.1.val 0)
/-- of the duties it pays. -/
def payToks (c : Dev nD) : sProp 𝕄 :=
  iprop((dutyTok ER (barCell (nbrW c 0)) 0 0 ∗ dutyTok ER (barCell (nbrW c 1)) 0 1) ∗ (bigSep Finset.univ fun t : Fin 4 × Chan => dutyTok ER (sCell c t.2) t.1.val 0)
    ∗ bigSep Finset.univ fun t : Fin 4 × Chan => dutyTok ER (rCell (nbrW c t.2.2.1) t.2) t.1.val 0)

omit [FloatOps F] in
theorem overToks : (bigSep toks fun x => dutyTok ER x.1 x.2.1 x.2.2 : sProp 𝕄) = bigSep Finset.univ fun c : Dev nD => ownToks c := by
  unfold toks ownToks
  rw [bigSep_map, bigSep_univ_prod]
  refine bigSep_congr fun c _ => ?_
  rw [bigSep_univ_sum, bigSep_univ_sum, over2]
  rfl

/-- A direction's step around the ring. -/
def around (d : Fin 2) : Dev nD ≃ Dev nD := ⟨fun c => nbrW c d, fun c => nbrW c (opp d), fun c => nbr_opp c d, fun c => nbr_opp' c d⟩

omit [FloatOps F] in
theorem overDevs {I : Type} [Fintype I] [DecidableEq I] (Φ : Dev nD → I → sProp 𝕄) (d : I → Fin 2) :
    (bigSep Finset.univ fun c : Dev nD => bigSep Finset.univ fun t : I => Φ c t) = bigSep Finset.univ fun c : Dev nD => bigSep Finset.univ fun t : I => Φ (nbrW c (d t)) t := by
  rw [← bigSep_univ_prod (fun p : Dev nD × I => Φ p.1 p.2), ← bigSep_univ_prod (fun p : Dev nD × I => Φ (nbrW p.1 (d p.2)) p.2)]
  exact bigSep_univ_equiv (⟨fun p => (nbrW p.1 (d p.2), p.2), fun p => (nbrW p.1 (opp (d p.2)), p.2), fun p => Prod.ext (nbr_opp p.1 _) rfl, fun p => Prod.ext (nbr_opp' p.1 _) rfl⟩ : Dev nD × I ≃ Dev nD × I)
    (fun p : Dev nD × I => Φ p.1 p.2)

omit [FloatOps F] in
theorem toks_around : (bigSep Finset.univ fun c : Dev nD => ownToks c : sProp 𝕄) = bigSep Finset.univ fun c : Dev nD => payToks c := by
  unfold ownToks payToks
  rw [bigSep_sep', bigSep_sep', bigSep_sep', bigSep_sep', bigSep_sep', bigSep_sep',
    bigSep_univ_equiv (around 0) (fun c : Dev nD => (dutyTok ER (barCell c) 0 0 : sProp 𝕄)),
    bigSep_univ_equiv (around 1) (fun c : Dev nD => (dutyTok ER (barCell c) 0 1 : sProp 𝕄)),
    overDevs (fun c (t : Fin 4 × Chan) => dutyTok ER (rCell c t.2) t.1.val 0) fun t => t.2.2.1]
  rfl

/-! ## The launch element and its dealing out -/

def u₀ : UU := (initOf (Pipeline.cells cfgs cellOf_inj) (Pipeline.launchToks cfgs cellOf_inj), (initOf cells toks, 1))

omit [FloatOps F] in
theorem own_parts (a : UR sig nD τ) (b : UX) :
    (ownU ((a, (b, (1 : Counters))) : UU) : sProp 𝕄) ⊢ iprop(BI.own (EP a) ∗ BI.own (ER b)) :=
  BI.own_op_elim ((uEmb (nD := nD) (sig := sig) (Ix := ℕ) (Val := Elt F) (Name := ℕ) (U := UU) (Lvl := ℕ)).toEmb.op_of_mem
    (Prod.mk_mem_op (URA.mem_op_one a) (URA.mem_one_op (b, (1 : Counters)))))

/-- What a device is dealt at the launch, -/
def G (c : Dev nD) : sProp 𝕄 :=
  iprop(atCells (fun g => roundState ER (Rd m) g 0) c ∗ atCells (fun g => atPos ER g 0 ∅ 0) c ∗ atCells (fun g => reached ER g 0) c ∗ ownToks c)

theorem fund : BI.own (ER (initOf cells toks)) ⊢ (|==> bigSep Finset.univ (G m) : sProp 𝕄) := by
  iintro HX
  imod (Rounds.fund ER (Rd m) cells toks) $$ HX with ⟨Hst, Hr, Hat, Htok⟩
  imodintro
  ihave Hst' := (Entails.of_eq (overCells fun g => roundState ER (Rd m) g 0)) $$ Hst
  ihave Hat' := (Entails.of_eq (overCells (F := F) fun g => atPos ER g 0 ∅ 0)) $$ Hat
  ihave Hr' := (Entails.of_eq (overCells (F := F) fun g => reached ER g 0)) $$ Hr
  ihave Htok' := (Entails.of_eq (overToks (F := F))) $$ Htok
  unfold G
  rw [bigSep_sep', bigSep_sep', bigSep_sep']
  isplitl [Hst']; · iexact Hst'
  isplitl [Hat']; · iexact Hat'
  isplitl [Hr']; · iexact Hr'
  iexact Htok'

/-- The kernel's own semaphores: the channels' two each, the local copies'. -/
abbrev Own : Type := (Chan ⊕ Chan) ⊕ Loc3
def osem : Own → SemLoc sig
  | .inl (.inl x) => .dma (sS x)
  | .inl (.inr x) => .dma (rS x)
  | .inr l => .dma (lS l)

theorem unscopedSems0_eq (c : Dev nD) : (unscopedSems0 c : sProp 𝕄) = semVal (barCell c) 0 := by
  unfold unscopedSems0; rw [bigSep_eq_bigSepL_of_eq [SemLoc.reg barS.sem] (by decide) (by decide)]; rfl
theorem ownSems0_eq (c : Dev nD) : (Pipeline.ownSems0 (Ix := ℕ) (Name := ℕ) (U := UU) (Lvl := ℕ) (Val := Elt F) (τ := τ) osem c : sProp 𝕄)
    = iprop(((bigSep Finset.univ fun x : Chan => semVal (sCell c x) 0) ∗ bigSep Finset.univ fun x : Chan => semVal (rCell c x) 0) ∗ bigSep Finset.univ fun d => lsems c d) := by
  rw [← lsems_split]
  unfold Pipeline.ownSems0
  rw [bigSep_univ_sum, bigSep_univ_sum]
  rfl

/-- A device's positions, and that its neighbours' barrier cells are at the first round, -/
def posn (c : Dev nD) : sProp 𝕄 :=
  iprop((reached ER (barCell (nbrW c 0)) 0 ∗ reached ER (barCell (nbrW c 1)) 0) ∗ atPos ER (barCell c) 0 ∅ 0 ∗ bigSep Finset.univ fun x : Chan => idle c x 0)
/-- and all that it starts from. -/
def G' (c : Dev nD) : sProp 𝕄 := iprop(∃ κ, invs m κ ∗ posn c ∗ payToks c ∗ bigSep Finset.univ fun d => lsems c d)

omit [FloatOps F] in
theorem with_all {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  BIBase.Entails.trans (sep_mono_left (BI.bigSep_of_persistent S R)) (by rw [← bigSep_sep']; exact bigSep_mono fun i _ => h i)

theorem invs_alloc : iprop((bigSep cells fun g => (semVal g 0 : sProp 𝕄)) ∗ bigSep cells fun g => roundState ER (Rd m) g 0) ⊢ |={Set.univ}=> iprop(∃ κ, invs m κ) := by
  have e : ∀ κ : GSem nD τ sig → ℕ, (bigSep cells fun g => cellInv ER (Rd m) (κ g) g) = invs m κ := fun κ => by
    rw [overCells]
    unfold invs atCells
    refine bigSep_congr fun c _ => ?_
    rw [bigSep_sep']
  refine BIBase.Entails.trans (Rounds.bodies_intro ER (Rd m) cells) (BIBase.Entails.trans (inv_alloc_family cells (Rounds.body ER (Rd m)) ∅ (E := Set.univ)) ?_)
  iintro H
  imod H with ⟨%κ, -, Hinv⟩
  imodintro
  iexists κ
  rw [← e κ]
  iexact Hinv

omit [FloatOps F] in
instance reached_persistent (c : Dev nD) : BI.Persistent (atCells (fun g => reached ER g 0) c : sProp 𝕄) := by unfold atCells; infer_instance

omit [FloatOps F] in
theorem posn_intro (c : Dev nD) : iprop((bigSep Finset.univ fun c : Dev nD => atCells (fun g => reached ER g 0) c) ∗ atCells (fun g => atPos ER g 0 ∅ 0) c) ⊢ (posn c : sProp 𝕄) := by
  have hb : ∀ d : Dev nD, (bigSep Finset.univ fun c : Dev nD => atCells (fun g => reached ER g 0) c : sProp 𝕄) ⊢ reached ER (barCell d) 0 := fun d =>
    BIBase.Entails.trans (BI.bigSep_elim (Finset.mem_univ d)) sep_elim_left
  have hs : (bigSep Finset.univ fun c : Dev nD => atCells (fun g => reached ER g 0) c : sProp 𝕄) ⊢ bigSep Finset.univ fun x : Chan => reached ER (sCell c x) 0 :=
    BIBase.Entails.trans (BI.bigSep_elim (Finset.mem_univ c)) (BIBase.Entails.trans sep_elim_right sep_elim_left)
  have hr : (bigSep Finset.univ fun c : Dev nD => atCells (fun g => reached ER g 0) c : sProp 𝕄) ⊢ bigSep Finset.univ fun x : Chan => reached ER (rCell c x) 0 :=
    BIBase.Entails.trans (BI.bigSep_elim (Finset.mem_univ c)) (BIBase.Entails.trans sep_elim_right sep_elim_right)
  unfold posn idle
  rw [bigSep_sep', bigSep_sep', bigSep_sep']
  conv => lhs; rhs; unfold atCells
  iintro ⟨#H, Hb, Hs, Hr⟩
  isplitr
  · isplitl
    · iapply (hb (nbrW c 0)); iexact H
    iapply (hb (nbrW c 1)); iexact H
  isplitl [Hb]; · iexact Hb
  isplitl [Hs]; · iexact Hs
  isplitl [Hr]; · iexact Hr
  isplitl
  · iapply hs; iexact H
  iapply hr; iexact H

/-- The global step of the launch: the cells' invariants allocated, the tokens dealt to those who pay. -/
theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) := by
  have e : ∀ c : Dev nD, iprop(Pipeline.ownSems0 (Ix := ℕ) (Name := ℕ) (U := UU) (Lvl := ℕ) (Val := Elt F) (τ := τ) osem c ∗ unscopedSems0 c ∗ G m c)
      ⊢ iprop(atCells (fun g => semVal g 0) c ∗ (bigSep Finset.univ fun d => lsems c d) ∗ G m c) := fun c => by
    rw [ownSems0_eq, unscopedSems0_eq]
    unfold atCells
    iintro ⟨⟨⟨Hs, Hr⟩, Hl⟩, Hb, HG⟩
    isplitl [Hs Hr Hb]
    · isplitl [Hb]; · iexact Hb
      isplitl [Hs]; · iexact Hs
      iexact Hr
    isplitl [Hl]; · iexact Hl
    iexact HG
  refine BIBase.Entails.trans (bigSep_mono fun c _ => e c) ?_
  unfold G
  rw [bigSep_sep', bigSep_sep', bigSep_sep', bigSep_sep', bigSep_sep', ← overCells, ← overCells, toks_around]
  iintro ⟨Hv, Hl, Hst, Hat, #Hr, Htok⟩
  imod (invs_alloc m) $$ [Hv Hst] with ⟨%κ, #Hinv⟩
  · isplitl [Hv]; · iexact Hv
    iexact Hst
  imodintro
  ihave Hp := (with_all (S := Finset.univ) (posn_intro (F := F))) $$ [Hat]
  · isplitr; · iexact Hr
    iexact Hat
  iapply (with_all (S := Finset.univ) (R := invs m κ) (Φ := fun c => iprop(posn c ∗ payToks c ∗ bigSep Finset.univ fun d => lsems c d)) fun c => exists_intro (Φ := fun κ => iprop(invs m κ ∗ posn c ∗ payToks c ∗ bigSep Finset.univ fun d => lsems c d)) κ)
  isplitr; · iexact Hinv
  rw [bigSep_sep', bigSep_sep']
  isplitl [Hp]; · iexact Hp
  isplitl [Htok]; · iexact Htok
  iexact Hl

/-! ## The launch credit -/

omit [FloatOps F] in
theorem allDue_eq (c : Dev nD) : allDue c = (∑ r : Fin 4, ∑ x : Chan, due c x r.val) + (tallyAt (barCell (nbrW c 1)) 0 1 + tallyAt (barCell (nbrW c 0)) 0 1) := by
  unfold allDue msgDue chunkDue stepDue
  simp only [Fin.sum_univ_four, Fin.sum_univ_two, Fin.sum_univ_three, Fintype.sum_prod_type]
  simp only [Fin.val_zero, Fin.val_one, Fin.val_two, show ((3 : Fin 4) : ℕ) = 3 from rfl]
  abel

omit [FloatOps F] in
theorem rCell_eq {c c' : Dev nD} {x y : Chan} : rCell c x = rCell c' y ↔ c = c' ∧ x = y := by
  constructor
  · intro h
    exact ⟨congrArg (fun g : GSem nD τ sig => g.1.1) h, rS_inj (SemLoc.dma.inj (congrArg Prod.snd h))⟩
  · rintro ⟨rfl, rfl⟩; rfl
omit [FloatOps F] in
theorem nbr_eq {c d : Dev nD} {t : Fin 2} : c = nbrW d t ↔ d = nbrW c (opp t) := by
  constructor
  · rintro rfl; exact (nbr_opp d t).symm
  · rintro rfl; exact (nbr_opp' c t).symm

omit [FloatOps F] in
theorem due_at (d c : Dev nD) (x y : Chan) (r i : ℕ) : due d y r (rCell c x) i = if y = x then if d = srcW c y.2.1 then if i = r then N else 0 else 0 else 0 := by
  unfold due
  have e : rCell c x = rCell (nbrW d y.2.1) y ↔ y = x ∧ d = srcW c y.2.1 := by rw [rCell_eq, nbr_eq, eq_comm (a := x), and_comm]
  rw [tallyAt_apply]
  simp only [e, ite_and]

omit [FloatOps F] in
theorem bar_at (c c' : Dev nD) (x : Chan) (i : ℕ) : (tallyAt (barCell c') 0 1 : CellTallies nD τ sig ℕ) (rCell c x) i = 0 := by
  rw [tallyAt_apply, if_neg]
  rintro ⟨h, -⟩
  have h2 := congrArg Prod.snd h
  cases h2

omit [FloatOps F] in
theorem credit_r (c : Dev nD) (x : Chan) : launchCredit (Pipeline.owing allDue) 0 (rCell c x) = ∑ r : Fin 4, Finsupp.single r.val N := by
  ext i
  rw [Pipeline.launchCredit_owing]
  simp only [allDue_eq, Pi.add_apply, Finsupp.add_apply, bar_at, Nat.add_zero, Finset.sum_apply, Finsupp.finset_sum_apply, due_at, Finsupp.single_apply]
  rw [Finset.sum_comm]
  refine Finset.sum_congr rfl fun r _ => ?_
  rw [Finset.sum_comm]
  simp only [Finset.sum_ite_irrel, Finset.sum_const_zero, Finset.sum_ite_eq', Finset.mem_univ, if_true, eq_comm (a := i)]

omit [FloatOps F] in
theorem due_bar (d c : Dev nD) (y : Chan) (r i : ℕ) : due d y r (barCell c) i = 0 := by
  unfold due
  rw [tallyAt_apply, if_neg]
  rintro ⟨h, -⟩
  have h2 := congrArg Prod.snd h
  cases h2
omit [FloatOps F] in
theorem bar_bar (d c : Dev nD) (t : Fin 2) (i : ℕ) : (tallyAt (barCell (nbrW d t)) 0 1 : CellTallies nD τ sig ℕ) (barCell c) i = if d = nbrW c (opp t) then if i = 0 then 1 else 0 else 0 := by
  rw [tallyAt_apply]
  have e : barCell c = barCell (nbrW d t) ↔ d = nbrW c (opp t) := by
    rw [← nbr_eq]
    exact ⟨fun h => congrArg (fun g : GSem nD τ sig => g.1.1) h, fun h => by rw [h]⟩
  simp only [e, ite_and]

omit [FloatOps F] in
theorem credit_bar (c : Dev nD) : launchCredit (Pipeline.owing allDue) 0 (barCell c) = Finsupp.single 0 2 := by
  ext i
  rw [Pipeline.launchCredit_owing]
  simp only [allDue_eq, Pi.add_apply, Finsupp.add_apply, Finset.sum_apply, Finsupp.finset_sum_apply, due_bar, bar_bar, Finset.sum_const_zero, Nat.zero_add, Finset.sum_add_distrib, Finset.sum_ite_eq', Finset.mem_univ, if_true, Finsupp.single_apply]
  by_cases h : i = 0
  · subst h; rfl
  · rw [if_neg h, if_neg (Ne.symm h)]; rfl

/-- The semaphores that other devices signal. -/
def signalled : Unit ⊕ Chan → SemLoc sig
  | .inl _ => .reg barS.sem
  | .inr x => .dma (rS x)
theorem signalled_inj : Function.Injective signalled := by
  rintro (a | a) (b | b) h
  · rfl
  · cases h
  · cases h
  · rw [rS_inj (SemLoc.dma.inj h)]

omit [FloatOps F] in
theorem cred_rounds (c : Dev nD) (x : Chan) :
    (cred (tallyOn (rCell c x) (launchCredit (Pipeline.owing allDue) 0 (rCell c x))) : sProp 𝕄) ⊢ bigSep Finset.univ fun r : Fin 4 => cred (tallyAt (rCell c x) r.val N) := by
  rw [credit_r, Fin.sum_univ_four, tallyOn_add, tallyOn_add, tallyOn_add, over4]
  iintro H
  ihave H' := (cred_add _ _).1 $$ H
  icases H' with ⟨H, H3⟩
  ihave H' := (cred_add _ _).1 $$ H
  icases H' with ⟨H, H2⟩
  ihave H' := (cred_add _ _).1 $$ H
  icases H' with ⟨H0, H1⟩
  isplitl [H0]; · iexact H0
  isplitl [H1]; · iexact H1
  isplitl [H2]; · iexact H2
  iexact H3

omit [FloatOps F] in
theorem creds (c : Dev nD) :
    (Pipeline.launchCred allDue c : sProp 𝕄) ⊢ iprop(cred (tallyAt (barCell c) 0 2) ∗ bigSep Finset.univ fun t : Fin 4 × Chan => cred (tallyAt (rCell c t.2) t.1.val N)) := by
  have e : (bigSep Finset.univ fun t : Fin 4 × Chan => cred (tallyAt (rCell c t.2) t.1.val N) : sProp 𝕄)
      = bigSep Finset.univ fun x : Chan => bigSep Finset.univ fun r : Fin 4 => cred (tallyAt (rCell c x) r.val N) := by
    rw [bigSep_univ_prod]
    simp only [over4, bigSep_sep']
  rw [e]
  unfold Pipeline.launchCred
  refine BIBase.Entails.trans (BI.bigSep_subset (Finset.subset_univ (Finset.univ.map ⟨signalled, signalled_inj⟩))) ?_
  rw [bigSep_map, bigSep_univ_sum, overUnit]
  refine BI.sep_mono ?_ (bigSep_mono fun x _ => cred_rounds c x)
  show (cred (tallyOn (barCell c) (launchCredit (Pipeline.owing allDue) 0 (barCell c))) : sProp 𝕄) ⊢ _
  rw [credit_bar]
  exact .rfl

end Cert.Proof

end
-- ==== Proof.Launch.lean ====
/-
  The launch: every run of the program ends, with the result each block of which holds what the exchange brought.
-/
module

public import proofs.«01_k».proof.Proof.Setup
public import Idealize.ShloMosaic.Lib.Pipeline.Quiescent

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig ℕ (Elt F) ℕ UU ℕ

variable (m : (ℓ : Loc nD τ sig) → Buf (Elt F) ℓ) (ρ : Dev nD → PrngReg)

/-! ## The body's start and end -/

omit [FloatOps F] in
theorem six_flat (Φ : Chan → sProp 𝕄) (d : Fin 2) : six Φ d ⊢ iprop(Φ (0, d, 0) ∗ Φ (0, d, 1) ∗ Φ (0, d, 2) ∗ Φ (1, d, 0) ∗ Φ (1, d, 1) ∗ Φ (1, d, 2)) := by
  unfold six
  iintro ⟨⟨H0, H1, H2⟩, H3⟩
  isplitl [H0]; · iexact H0
  isplitl [H1]; · iexact H1
  isplitl [H2]; · iexact H2
  iexact H3

/-- The rights of all channels in all chunks, by direction. -/
theorem rights_split (c : Dev nD) : iprop((bigSep Finset.univ fun t : Fin 4 × Chan => dutyTok ER (sCell c t.2) t.1.val 0)
      ∗ (bigSep Finset.univ fun t : Fin 4 × Chan => dutyTok ER (rCell (nbrW c t.2.2.1) t.2) t.1.val 0)
      ∗ bigSep Finset.univ fun t : Fin 4 × Chan => cred (tallyAt (rCell c t.2) t.1.val N))
    ⊢ (bigSep Finset.univ fun d => allRights c d : sProp 𝕄) := by
  have e : iprop((bigSep Finset.univ fun t : Fin 4 × Chan => dutyTok ER (sCell c t.2) t.1.val 0)
      ∗ (bigSep Finset.univ fun t : Fin 4 × Chan => dutyTok ER (rCell (nbrW c t.2.2.1) t.2) t.1.val 0)
      ∗ bigSep Finset.univ fun t : Fin 4 × Chan => cred (tallyAt (rCell c t.2) t.1.val N))
      = (bigSep Finset.univ fun t : Fin 4 × Chan => right c t.2 t.1.val : sProp 𝕄) := by
    unfold right
    rw [bigSep_sep', bigSep_sep']
  rw [e, bigSep_univ_prod, over4]
  unfold allRights
  rw [bigSep_sep', bigSep_sep', bigSep_sep']
  have h : ∀ r : ℕ, (bigSep Finset.univ fun x : Chan => right c x r : sProp 𝕄) ⊢ bigSep Finset.univ fun d => rights c d r := fun r => by
    rw [overChan]
    unfold rights
    exact bigSep_mono fun d _ => six_flat _ d
  exact BI.sep_mono (h 0) (BI.sep_mono (h 1) (BI.sep_mono (h 2) (h 3)))

/-- What a device has at the body's start besides the scratch buffers, -/
def startX (c : Dev nD) : sProp 𝕄 :=
  iprop(∃ κ, ctx m κ ∗ hands c ∗ (bigSep Finset.univ fun d => args m c d) ∗ (bigSep Finset.univ fun d => lsems c d) ∗ (bigSep Finset.univ fun d => rows c d)
    ∗ (bigSep Finset.univ fun d => six (fun x => idle c x 0) d) ∗ bigSep Finset.univ fun d => allRights c d)
/-- at its start, -/
def Φ₀ (c : Dev nD) : sProp 𝕄 := iprop(∃ κ, ctx m κ ∗ hands c ∗ dirStart m c 0 ∗ dirStart m c 1)
/-- what stays at its end, -/
def endY (c : Dev nD) : sProp 𝕄 := iprop(unscopedSems0 c ∗ parts m c fullShare ∗ resid m c fullShare ∗ result m c)
/-- and at its end. -/
def Φ₁ (c : Dev nD) : sProp 𝕄 :=
  iprop(endY m c ∗ Pipeline.ownSems0 (Ix := ℕ) (Name := ℕ) (U := UU) (Lvl := ℕ) (Val := Elt F) (τ := τ) osem c ∗ scratch c)

theorem start_body (c : Dev nD) : iprop(startX m c ∗ scratch c) ⊢ Φ₀ m c := by
  unfold startX Φ₀
  iintro ⟨⟨%κ, Hctx, Hh, Ha, Hl, Hr, Hi, Ht⟩, Hs⟩
  ihave Hs' := (scratch_split c).1 $$ Hs
  iexists κ
  isplitl [Hctx]; · iexact Hctx
  isplitl [Hh]; · iexact Hh
  iapply (show iprop((bigSep Finset.univ fun d => bufs c d) ∗ (bigSep Finset.univ fun d => args m c d) ∗ (bigSep Finset.univ fun d => lsems c d) ∗ (bigSep Finset.univ fun d => rows c d)
      ∗ (bigSep Finset.univ fun d => six (fun x => idle c x 0) d) ∗ bigSep Finset.univ fun d => allRights c d) ⊢ iprop(dirStart m c 0 ∗ dirStart m c 1) from by
    rw [← over2 fun d => dirStart m c d, ← bigSep_sep', ← bigSep_sep', ← bigSep_sep', ← bigSep_sep', ← bigSep_sep']
    exact bigSep_mono fun d _ => dirStart_intro m c d)
  isplitl [Hs']; · iexact Hs'
  isplitl [Ha]; · iexact Ha
  isplitl [Hl]; · iexact Hl
  isplitl [Hr]; · iexact Hr
  isplitl [Hi]; · iexact Hi
  iexact Ht

/-- After the last chunk a channel's two semaphores are at zero again. -/
theorem chan_close (κ : GSem nD τ sig → ℕ) (c : Dev nD) (x : Chan) : iprop(invs m κ ∗ idle c x 4) ⊢ (|={Set.univ}=> iprop(semVal (sCell c x) 0 ∗ semVal (rCell c x) 0) : sProp 𝕄) := by
  unfold idle
  iintro ⟨#Hinv, Hs, Hr, -, -⟩
  imod (Rounds.cell_close ER (Rd m) (Set.mem_univ (κ (sCell c x))) (fun h => h) (R := 4) (duties_x_later m c (sS x))) $$ [Hs] with Hs'
  · isplitr; · iapply (invs_s m κ c x); iexact Hinv
    iexact Hs
  imod (Rounds.cell_close ER (Rd m) (Set.mem_univ (κ (rCell c x))) (fun h => h) (R := 4) (duties_x_later m c (rS x))) $$ [Hr] with Hr'
  · isplitr; · iapply (invs_r m κ c x); iexact Hinv
    iexact Hr
  imodintro
  isplitl [Hs']; · iexact Hs'
  iexact Hr'

theorem end_body (κ : GSem nD τ sig → ℕ) (c : Dev nD) : iprop(invs m κ ∗ dirEnd m c 0 ∗ dirEnd m c 1 ∗ atPos ER (barCell c) 1 ∅ 0) ⊢ |={Set.univ}=> Φ₁ m c := by
  iintro ⟨#Hinv, H0, H1, Hb⟩
  ihave H := (show iprop(dirEnd m c 0 ∗ dirEnd m c 1) ⊢ iprop((bigSep Finset.univ fun d => bufs c d) ∗ (bigSep Finset.univ fun d => args m c d) ∗ (bigSep Finset.univ fun d => lsems c d)
      ∗ (bigSep Finset.univ fun d => rowsDone m c d) ∗ bigSep Finset.univ fun d => six (fun x => idle c x 4) d) from by
    rw [← over2 fun d => dirEnd m c d, ← bigSep_sep', ← bigSep_sep', ← bigSep_sep', ← bigSep_sep']
    exact bigSep_mono fun d _ => dirEnd_elim m c d) $$ [H0 H1]
  · isplitl [H0]; · iexact H0
    iexact H1
  icases H with ⟨Hs, Ha, Hl, Hr, Hi⟩
  imod (Rounds.cell_close ER (Rd m) (Set.mem_univ (κ (barCell c))) (fun h => h) (R := 1) (duties_bar_later m c)) $$ [Hb] with Hb'
  · isplitr; · iapply (invs_bar m κ c); iexact Hinv
    iexact Hb
  ihave Hi' := (Entails.of_eq (overChan (F := F) fun x => idle c x 4).symm) $$ Hi
  imod (show iprop(invs m κ ∗ bigSep Finset.univ fun x : Chan => idle c x 4) ⊢ (|={Set.univ}=> bigSep Finset.univ fun x : Chan => iprop(semVal (sCell c x) 0 ∗ semVal (rCell c x) 0) : sProp 𝕄) from
    BIBase.Entails.trans (with_all fun x => chan_close m κ c x) (bigSep_fupd _ _)) $$ [Hi'] with Hv
  · isplitr; · iexact Hinv
    iexact Hi'
  imodintro
  ihave Hv' := (Entails.of_eq (bigSep_sep' Finset.univ (fun x : Chan => (semVal (sCell c x) 0 : sProp 𝕄)) (fun x => semVal (rCell c x) 0))) $$ Hv
  icases Hv' with ⟨Hvs, Hvr⟩
  ihave Ha' := (args_split m c).2 $$ Ha
  icases Ha' with ⟨Hp, Hq⟩
  unfold Φ₁ endY
  rw [unscopedSems0_eq, ownSems0_eq]
  isplitl [Hb' Hp Hq Hr]
  · isplitl [Hb']; · iexact Hb'
    isplitl [Hp]; · iexact Hp
    isplitl [Hq]; · iexact Hq
    iapply (rows_join m c); iexact Hr
  isplitl [Hvs Hvr Hl]
  · isplitl [Hvs Hvr]
    · isplitl [Hvs]; · iexact Hvs
      iexact Hvr
    iexact Hl
  iapply (scratch_split c).2; iexact Hs

/-! ## The body -/

def dats (_ : Fin 1) (c : Dev nD) : Pipeline.Dat τ (Elt F) ℕ ℕ UU ℕ cfg0 c where
  A w := m ((cfg0.win w).arr.view.loc (c : Thread nD τ))
  after w _ := match w with
    | ⟨0, _⟩ => gamAt m c
  Φ t := match t with
    | ⟨0, _⟩ => Φ₀ m c
    | ⟨_ + 1, _⟩ => Φ₁ m c
  q _ := fullShare
  owed t := match t with
    | ⟨0, _⟩ => allDue c
    | ⟨_ + 1, _⟩ => 0

theorem before_eq (c : Dev nD) (d) : (dats m 0 c).before (0 : Fin 1) t0_0 d = gamAt m c := by
  unfold Pipeline.Dat.before
  rw [if_pos (fetch0_0 _)]
  rfl

def bodyPre (c : Dev nD) : sProp 𝕄 :=
  iprop(Φ₀ m c ∗ (dats m 0 c).owesAt 0 t0_0.castSucc ∗ ∃ d, owns (c : Thread nD τ) (Memref.whole cc0_stg0_0) fullShare ((dats m 0 c).before (0 : Fin 1) t0_0 d))
def bodyPost (c : Dev nD) : sProp 𝕄 :=
  iprop(Φ₁ m c ∗ (dats m 0 c).owesAt 0 t0_0.succ ∗ owns (c : Thread nD τ) (Memref.whole cc0_stg0_0) fullShare (gamAt m c))

set_option maxRecDepth 100000 in
theorem body_obligation (c : Dev nD) : Pipeline.BodyObligation (dats (F := F) m 0 c) (defs₀ (F := F)) 𝒱₀ 0 Set.univ := fun t => by
  rw [fin_N0 t]
  rw [bigSep_W0, bigSep_W0]
  show bodyPre m c ⊢ WP c (cc0_body (F := F) (Memref.whole main_arg0) (Memref.isWhole_whole _) (Memref.whole main_arg1) (Memref.isWhole_whole _) (Memref.whole cc0_stg0_0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 cc0_scratch7 cc0_scratch8 cc0_scratch9 cc0_scratch10 cc0_scratch11 cc0_scratch12)
    (fun _ => bodyPost m c)
  rw [body_eq]
  refine BIBase.Entails.trans ?_ (wp_fupd frame (wpE (defs₀ (F := F)) 𝒱₀ (c : Thread nD τ) none) Set.univ body fun _ => bodyPost m c)
  unfold bodyPre Φ₀ Pipeline.Dat.owesAt Pipeline.owesWithin
  rw [show (dats m 0 c).owed t0_0.castSucc = allDue c from rfl]
  iintro ⟨⟨%κ, #Hctx, Hh, D0, D1⟩, ⟨%W, -, HO⟩, ⟨%d, Hg⟩⟩
  rw [before_eq]
  iapply (body_spec m κ c) $$ [Hg D0 D1 Hh HO]
  · isplitr; · iexact Hctx
    isplitl [Hg]; · iexact Hg
    isplitl [D0]; · iexact D0
    isplitl [D1]; · iexact D1
    isplitl [Hh]; · iexact Hh
    iexists W; iexact HO
  iintro ⟨Hg, D0, D1, Hb, ⟨%W', HO⟩⟩
  ihave #Hinv := (ctx_invs m κ) $$ Hctx
  imod (end_body m κ c) $$ [D0 D1 Hb] with HE
  · isplitr; · iexact Hinv
    isplitl [D0]; · iexact D0
    isplitl [D1]; · iexact D1
    iexact Hb
  imodintro
  unfold bodyPost Pipeline.Dat.owesAt Pipeline.owesWithin
  rw [show (dats m 0 c).owed t0_0.succ = 0 from rfl]
  isplitl [HE]; · iexact HE
  isplitl [HO]
  · iexists W'
    isplitr; · ipureintro; exact fun _ _ => Or.inl trivial
    iexact HO
  iexact Hg

/-! ## The launch -/

theorem ownSemFacts : Pipeline.OwnSemFacts cfg0.spec osem := by decide +kernel

theorem share_eq (c : Dev nD) (w : Fin cfg0.W) : (dats m 0 c).share w = fullShare := by unfold Pipeline.Dat.share; split <;> rfl

omit [FloatOps F] in
theorem Above.bar (c : Dev nD) : Above 0 (tallyAt (barCell c) 0 1) := fun g i hp => by
  rw [tallyAt_apply] at hp
  split_ifs at hp with h
  · obtain ⟨rfl, rfl⟩ := h
    exact ⟨by rw [L_tc]; exact Finset.mem_range.mpr (by decide), Nat.one_pos⟩
  · exact absurd hp (lt_irrefl 0)

theorem waits (c : Dev nD) : (levAts L lv : sProp 𝕄) ⊢ Pipeline.cellsWaits cfgs (dats m) 0 0 c :=
  Pipeline.cellsWaits_intro cfgs (dats m) 0 0 c fun w s t => by
    have hr : lv ((c : Thread nD τ), SemLoc.dma ((cfg0.win w).sem s)) 0 = 0 := by
      have : ∀ (w : Fin 1) (s : Fin (cfg0.win w).nbuf), rank ((cfg0.win w).sem s).val 0 = 0 := by
        intro w s; fin_cases w; fin_cases s; decide
      exact this w s
    refine mayWait c _ 0 (by decide) ?_
    rw [hr]
    rcases t with ⟨_ | _, ht⟩
    · exact (((above0 c).le (by decide)).add (Above.bar _)).add (Above.bar _)
    · exact Above.zero 0

/-- A device's memory and semaphore at a final state, as far as the body's end speaks of them. -/
def Done (c : Dev nD) (s : MemSt nD τ sig (Elt F)) : Prop :=
  (s.mem ((c : Thread nD τ).loc main_arg0) = m ((c : Thread nD τ).loc main_arg0) ∧ s.mem ((c : Thread nD τ).loc main_arg1) = m ((c : Thread nD τ).loc main_arg1)
    ∧ ∀ t j, (s.mem ((c : Thread nD τ).loc main_v1) : Vec F S8192x2048 .f32) ((rOut c t).emb j) = outB m c t j)
  ∧ ∀ sm : SemLoc sig, sm.isScoped .tc = false → s.sem ((c.tc : Thread nD τ), sm) = 0

omit [FloatOps F] in
theorem read_one (ℓ : Loc nD τ sig) (X : Buf (Elt F) ℓ) (s' : Phys nD τ sig (Elt F)) : iprop((ℓ ↦{fullShare} X) ∗ SI s') ⊢ (iprop(⌜s'.mem.mem ℓ = X⌝ ∗ SI s') : sProp 𝕄) := by
  have h := pointsTo_read_all (Ix := ℕ) (Name := ℕ) (U := UU) (Lvl := ℕ) (Finset.univ : Finset Unit) (fun _ => ℓ) (fun _ => X) s'
  rw [overUnit] at h
  refine BIBase.Entails.trans h ?_
  iintro ⟨%h, H⟩
  isplitr; · ipureintro; exact h () (Finset.mem_univ _)
  iexact H

theorem read_end (c : Dev nD) (s' : Phys nD τ sig (Elt F)) : iprop(endY m c ∗ SI s') ⊢ |={Set.univ}=> (iprop(⌜Done m c s'.mem⌝ ∗ SI s') : sProp 𝕄) := by
  unfold endY result
  iintro ⟨⟨Hu, Hp, Hq, ⟨%X, %hX, Ho⟩⟩, HS⟩
  ihave H := (read_one _ _ s') $$ [Hp HS]
  · isplitl [Hp]; · iexact Hp
    iexact HS
  icases H with ⟨%h0, HS⟩
  ihave H := (read_one _ _ s') $$ [Hq HS]
  · isplitl [Hq]; · iexact Hq
    iexact HS
  icases H with ⟨%h1, HS⟩
  ihave H := (read_one _ _ s') $$ [Ho HS]
  · isplitl [Ho]; · iexact Ho
    iexact HS
  icases H with ⟨%h2, HS⟩
  ihave %h3 := (tcUnscoped_read c s') $$ [Hu HS]
  · isplitl [Hu]; · iexact Hu
    iexact HS
  imodintro
  isplitr
  · ipureintro
    exact ⟨⟨h0, h1, fun t j => (congrFun h2 _).trans (hX t j)⟩, h3⟩
  iexact HS

theorem start_launch (c : Dev nD) :
    iprop(Pipeline.unscopedRestP Pipeline.Prefetch.none cfg0.spec c (fun b => m ((c : Thread nD τ).loc b)) ∗ levAts L lv ∗ Pipeline.launchCred allDue c ∗ prngReg c (ρ c) ∗ G' m c)
      ⊢ |={Set.univ}=> iprop(startX m c ∗ emp) := by
  rw [Pipeline.unscopedRestP_none, unscopedRest0_eq]
  unfold G' posn payToks
  iintro ⟨⟨Hp, Hq, Ho⟩, Hlev, Hcr, -, ⟨%κ, Hinv, ⟨⟨Hr0, Hr1⟩, Hab, Hi⟩, ⟨⟨Hd0, Hd1⟩, Hts, Htr⟩, Hl⟩⟩
  ihave Hc := (creds (F := F) c) $$ Hcr
  icases Hc with ⟨Hcb, Hcx⟩
  imodintro
  isplitl
  swap; · iempintro
  unfold startX ctx hands
  iexists κ
  isplitl [Hinv Hlev]
  · isplitl [Hinv]; · iexact Hinv
    iexact Hlev
  isplitl [Hr0 Hr1 Hab Hd0 Hd1 Hcb]
  · isplitl [Hd0]; · iexact Hd0
    isplitl [Hd1]; · iexact Hd1
    isplitl [Hr0]; · iexact Hr0
    isplitl [Hr1]; · iexact Hr1
    isplitl [Hab]; · iexact Hab
    iexact Hcb
  isplitl [Hp Hq]
  · iapply (args_split m c).1
    isplitl [Hp]; · iexact Hp
    iexact Hq
  isplitl [Hl]; · iexact Hl
  isplitl [Ho]
  · iapply (rows_split (F := F) c)
    iapply (Entails.of_eq (whole_any (F := F) c (b := main_v1)))
    iexists _; iexact Ho
  isplitl [Hi]
  · iapply (Entails.of_eq (overChan (F := F) fun x => idle c x 0)); iexact Hi
  iapply (rights_split c)
  isplitl [Hts]; · iexact Hts
  isplitl [Htr]; · iexact Htr
  iexact Hcx

set_option maxRecDepth 100000 in
/-- Every weakly fair execution of the program on the thirty-two devices, from any memory with the semaphores at zero, ends; then
    the arguments are what they were, each block of each device's result is what `outB` says, and the semaphores are at zero. -/
theorem run_main : θ_run (defs (F := F)) (onTc (τ := τ) (main (F := F))) ⟨m, fun _ => 0, ρ⟩ (fun r =>
    (∀ c : Dev nD, r.2.mem ((c : Thread nD τ).loc main_arg2) = m ((c : Thread nD τ).loc main_arg2)) ∧ (∀ c, Done m c r.2) ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := allDue) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (own_parts _ _) $$ Hu
      icases H with ⟨HP, HX⟩
      imod (fund m) $$ HX with HG
      imodintro
      isplitl [HP] <;> iassumption)
    (hglob := glob m)
    (hA := fun _ _ => rfl) (hpf := fun _ k => k.elim0)
    (X := startX m) (Y := endY m) (Z := fun _ => iprop(emp))
    (hX := start_launch m ρ)
    (hin := fun c => by
      rw [show (dats m 0 c).Φ 0 = Φ₀ m c from rfl, show Pipeline.scopedRest cfg0.spec c = scratch c from scratch_eq c]
      iintro ⟨Hs, -, Hr⟩
      iapply (start_body m c)
      isplitl [Hs]; · iexact Hs
      iexact Hr)
    (hout := fun c => by
      rw [show (dats m 0 c).Φ (Fin.last cfg0.N) = Φ₁ m c from rfl, show Pipeline.scopedRest cfg0.spec c = scratch c from scratch_eq c]
      exact .rfl)
    (QY := Done m)
    (hY := fun c s' => by
      iintro ⟨Hu, -, HS⟩
      iapply (read_end m c s')
      isplitl [Hu] <;> iassumption)
    (hQ := fun _ h hs => ⟨fun c => ((h c).1 (0 : Fin 1)).trans ((dats m 0 c).arrAt_in (0 : Fin 1) rfl _), fun c => (h c).2.2, sem_eq_zero hs fun c => (h c).2.2.2⟩)

end Cert.Proof

end
-- ==== Proof.Frames.lean ====
/- The frames of the three programs: every run ends, the arguments are unchanged, every semaphore is at zero. -/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Proof

open Idealize.ShloMosaic Idealize.SL.Sem

section

variable {F : FTy → Type} [FloatOps F]

/-- The two programs that are printed have the same body. -/
theorem defs₀_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

theorem defs_eq : Cert.Kernel.defs (F := F) = Cert.KernelIdeal.defs (F := F) :=
  congrArg (Pipeline.defs Cert.KernelIdeal.pcfgs) defs₀_eq

end

/-- The run of the kernel over the words. -/
theorem frame_kernel : Cert.quiescent_Kernel := fun m ρ _ => by
  have h := run_main (F := Bits) m ρ
  rw [← defs_eq] at h
  exact (θ_run Cert.Kernel.defs _ _).mono
    (fun _ h => ⟨fun c => ⟨(h.2.1 c).1.1, (h.2.1 c).1.2.1, h.1 c⟩, h.2.2⟩) h

/-- The same run over the extended reals. -/
theorem frame_kernelIdeal : Cert.quiescent_KernelIdeal := fun m ρ _ =>
  (θ_run Cert.KernelIdeal.defs _ _).mono
    (fun _ h => ⟨fun c => ⟨(h.2.1 c).1.1, (h.2.1 c).1.2.1, h.1 c⟩, h.2.2⟩) (run_main (F := Ideal) m ρ)

/-- The reference declares no semaphore and writes none of its arguments. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Value.lean ====
/-
  What a block of rows holds at the end, element by element, over the extended reals: the row's sum over the four
  devices, plus the residual, normalised.
-/
module

public import proofs.«01_k».proof.Proof.Slots
public import Idealize.ShloMosaic.Lib.Pointwise

@[expose] public section

noncomputable section

namespace Cert.Proof

open Cert.KernelIdeal Cert.KernelIdeal.Gen
open Idealize.ShloMosaic
open Idealize.ShloMosaic.TcCoe
open Idealize.SL Idealize.SL.Sem

variable (m : (ℓ : Loc nD τ sig) → Buf (Elt Ideal) ℓ)

/-! ## The blocks read out of the arguments -/

theorem parAt_apply (c : Dev nD) (off : Fin 3 → Nat) (h : InP off) (h2 : off 2 = 0) (i : Fin 256) (n : Fin 2048) (r : Fin 8192) (hr : r.val = off 1 + i.val) :
    parAt m c off h (ix2 i n) = (m ((c : Thread nD τ).loc main_arg0) : S1x8192x2048.Idx → EReal) (ix3 (0 : Fin 1) r n) := by
  have e : Shape.reshapeEquiv squeezes_S1x256x2048_S256x2048.numel_eq (ix2 i n) = (ix3 (0 : Fin 1) i n : S1x256x2048.Idx) := by
    pointwise
  show (m ((c : Thread nD τ).loc main_arg0) : S1x8192x2048.Idx → EReal) ((Rect.unit (s := S1x8192x2048) off S1x256x2048.size h).emb (Shape.reshapeEquiv _ (ix2 i n))) = _
  rw [e]
  congr 1
  funext a
  match a with
  | ⟨0, _⟩ => exact Fin.ext (by have : off 0 + 1 ≤ 1 := h 0; show off 0 + 1 * 0 = 0; omega)
  | ⟨1, _⟩ => exact Fin.ext (by show off 1 + 1 * i.val = r.val; omega)
  | ⟨2, _⟩ => exact Fin.ext (by show off 2 + 1 * n.val = n.val; omega)

theorem resAt_apply (c : Dev nD) (off : Fin 2 → Nat) (h : InR off) (h1 : off 1 = 0) (i : Fin 256) (n : Fin 2048) (r : Fin 8192) (hr : r.val = off 0 + i.val) :
    resAt m c off h (ix2 i n) = (m ((c : Thread nD τ).loc main_arg1) : S8192x2048.Idx → EReal) (ix2 r n) := by
  show (m ((c : Thread nD τ).loc main_arg1) : S8192x2048.Idx → EReal) ((Rect.unit (s := S8192x2048) off S256x2048.size h).emb (ix2 i n)) = _
  congr 1
  funext a
  match a with
  | ⟨0, _⟩ => exact Fin.ext (by show off 0 + 1 * i.val = r.val; omega)
  | ⟨1, _⟩ => exact Fin.ext (by show off 1 + 1 * n.val = n.val; omega)

theorem gamAt_eq (c : Dev nD) : gamAt m c = (m ((c : Thread nD τ).loc main_arg2) : S2048.Idx → EReal) := by
  funext x
  show (m ((c : Thread nD τ).loc main_arg2) : S2048.Idx → EReal) ((win0_0.blk (0 : Fin 1)).view.emb x) = _
  congr 1
  funext a
  match a with
  | ⟨0, _⟩ => exact Fin.ext (by show 0 + 1 * (x 0).val = (x 0).val; omega)

/-! ## The casts between a slot and its block -/

theorem cast_up {e : EltTy} (X : Vec Ideal S256x2048 e) (h : S1x1x256x2048.ShapeCasts S256x2048) : shapeCast S256x2048 (cutUp h4 X : Vec Ideal S1x1x256x2048 e) h = X :=
  cutDown_up h4 X
theorem cast_up3 {e : EltTy} (X : Vec Ideal S256x2048 e) (h : S1x256x2048.ShapeCasts S256x2048) : shapeCast S256x2048 (cutUp h3 X : Vec Ideal S1x256x2048 e) h = X :=
  cutDown_up h3 X
theorem down_cast {e : EltTy} (X : Vec Ideal S256x2048 e) (h : S256x2048.ShapeCasts S1x1x256x2048) : (cutDown h4 (shapeCast S1x1x256x2048 X h) : Vec Ideal S256x2048 e) = X :=
  funext fun y => congrArg X (by
    show Shape.reshapeEquiv _ (Shape.reshapeEquiv h4 y) = y
    rw [← Shape.reshapeEquiv_symm h4]; exact Equiv.symm_apply_apply _ y)

/-! ## The sums that travel -/

theorem rsMsg0_eq (d : Fin 2) (ch : Fin 4) (c : Dev nD) :
    (rsMsg0 m d ch c : S256x2048.Idx → EReal) = parAt m c (offSend c d ch) (offSend_in c d ch) := by
  unfold rsMsg0 k0_pay1
  rw [down_cast, cast_up]; rfl

theorem rsNext_eq (d : Fin 2) (ch : Fin 4) (k : Fin 3) (X : Dev nD → Vec Ideal S256x2048 .bf16) (c : Dev nD) (j : S256x2048.Idx) :
    (rsNext m d ch k X c : S256x2048.Idx → EReal) j = (X (srcW c d) : S256x2048.Idx → EReal) j + (parAt m c (offRecv c d ch k) (offRecv_in c d ch k) : S256x2048.Idx → EReal) j := by
  unfold rsNext k0_pay5
  rw [down_cast, cast_up, cast_up]; rfl

theorem sumUp_eq (d : Fin 2) (ch : Fin 4) (c : Dev nD) : (sumUp m d ch c : S256x2048.Idx → EReal) = rsMsg m d ch 2 (srcW c d) := by
  unfold sumUp k0_pay3
  rw [cast_up]; rfl

/-! ## The normalisation -/

/-- The factor of a row: one over the root of its mean square plus the small constant. -/
def scale (y : Fin 2048 → EReal) : EReal :=
  Ideal.rsqrt (Ideal.div (∑ n, y n * y n) (Ideal.ofBits .f32 0x45000000#32) + Ideal.ofBits .f32 0x358637BD#32)

theorem pay9_apply (x : FVec Ideal S256x2048 .f32) (v : Vec Ideal S256x2048 .f32) (r : Vec Ideal S256x2048 .f32) (g : Vec Ideal S2048 .f32) (y : Fin 2048 → EReal) (i : Fin 256) (j : Fin 2048)
    (hy : ∀ n, y n = (x (ix2 i n) + v (ix2 i n) : EReal) + r (ix2 i n)) :
    (k0_pay9 x (cutUp h4 v) (cutUp h3 r) g : S256x2048.Idx → EReal) (ix2 i j) = y j * scale y * g (ix1 j) := by
  unfold k0_pay9 scale
  rw [cast_up, cast_up3]
  simp only [hy]
  pointwise

/-! ## The whole arrays -/

/-- The third coordinate of a device on the mesh: which slab of the partial array it holds. -/
def zAx (c : Dev nD) : Fin 4 := ⟨c.val % 4, Nat.mod_lt _ (by decide)⟩

/-- The four devices that a block passes, the last one finishing it. -/
def trail (d : Fin 2) (c : Dev nD) : Fin 4 → Dev nD
  | 0 => srcW (srcW (srcW c d) d) d
  | 1 => srcW (srcW c d) d
  | 2 => srcW c d
  | 3 => c

theorem trail_inj (c : Dev nD) (d : Fin 2) : Function.Injective fun k => zAx (trail d c k) := by revert c d; decide +kernel

theorem trail_send (c : Dev nD) (d : Fin 2) (ch : Fin 4) : offSend (srcW (srcW (srcW c d) d) d) d ch 1 = offOwn c d ch 0 := by revert c d ch; decide +kernel
theorem trail_recv0 (c : Dev nD) (d : Fin 2) (ch : Fin 4) : offRecv (srcW (srcW c d) d) d ch 0 1 = offOwn c d ch 0 := by revert c d ch; decide +kernel
theorem trail_recv1 (c : Dev nD) (d : Fin 2) (ch : Fin 4) : offRecv (srcW c d) d ch 1 1 = offOwn c d ch 0 := by revert c d ch; decide +kernel
theorem trail_recv2 (c : Dev nD) (d : Fin 2) (ch : Fin 4) : offRecv c d ch 2 1 = offOwn c d ch 0 := by revert c d ch; decide +kernel
theorem offSend_col (c : Dev nD) (d : Fin 2) (ch : Fin 4) : offSend c d ch 2 = 0 := by revert c d ch; decide +kernel
theorem offRecv_col (c : Dev nD) (d : Fin 2) (ch : Fin 4) (k : Fin 3) : offRecv c d ch k 2 = 0 := by revert c d ch k; decide +kernel
/-- The block that a step of the gathering brings is the one that the device so many places back finished. -/
theorem offAg_own (c : Dev nD) (d : Fin 2) (ch : Fin 4) (k : Fin 3) :
    offAg c d ch k 0 = offOwn (trail d c (3 - k.succ)) d ch 0 := by
  revert c d ch k; decide +kernel

/-- The whole partial array: the four slabs. -/
abbrev SP : Shape := ⟨3, ![4, 8192, 2048]⟩

variable (A : SP.Idx → EReal) (R : S8192x2048.Idx → EReal) (G : S2048.Idx → EReal)

/-- A row of the sum, the residual added. -/
def row (r : Fin 8192) (n : Fin 2048) : EReal := (∑ z : Fin 4, A (ix3 z r n)) + R (ix2 r n)
/-- What the result holds. -/
def normed (r : Fin 8192) (j : Fin 2048) : EReal := row A R r j * scale (row A R r) * G (ix1 j)

/-- The devices' arguments are their parts of the whole arrays. -/
structure Parts : Prop where
  partial_ : ∀ (c : Dev nD) (r : Fin 8192) (n : Fin 2048), (m ((c : Thread nD τ).loc main_arg0) : S1x8192x2048.Idx → EReal) (ix3 (0 : Fin 1) r n) = A (ix3 (zAx c) r n)
  resid : ∀ c : Dev nD, (m ((c : Thread nD τ).loc main_arg1) : S8192x2048.Idx → EReal) = R
  gamma : ∀ c : Dev nD, (m ((c : Thread nD τ).loc main_arg2) : S2048.Idx → EReal) = G

variable {m A R G} (hm : Parts m A R G)
include hm

theorem row_eq (d : Fin 2) (ch : Fin 4) (c : Dev nD) (i : Fin 256) (r : Fin 8192) (hr : r.val = offOwn c d ch 0 + i.val) (n : Fin 2048) :
    row A R r n = ((sumUp m d ch c : S256x2048.Idx → EReal) (ix2 i n) + (parAt m c (offRecv c d ch 2) (offRecv_in c d ch 2) : S256x2048.Idx → EReal) (ix2 i n) : EReal)
      + (resAt m c (offOwn c d ch) (offOwn_in c d ch) : S256x2048.Idx → EReal) (ix2 i n) := by
  rw [sumUp_eq]
  show _ = ((rsNext m d ch 1 (rsNext m d ch 0 (rsMsg0 m d ch)) (srcW c d) : S256x2048.Idx → EReal) (ix2 i n) + _ : EReal) + _
  rw [rsNext_eq, rsNext_eq, rsMsg0_eq,
    parAt_apply m _ _ _ (offSend_col ..) i n r (by rw [trail_send]; exact hr),
    parAt_apply m _ _ _ (offRecv_col ..) i n r (by rw [trail_recv0]; exact hr),
    parAt_apply m _ _ _ (offRecv_col ..) i n r (by rw [trail_recv1]; exact hr),
    parAt_apply m _ _ _ (offRecv_col ..) i n r (by rw [trail_recv2]; exact hr),
    resAt_apply m _ _ _ (show offOwn c d ch 1 = 0 from offB_col c (d, ch, 0)) i n r hr, hm.resid]
  simp only [hm.partial_]
  unfold row
  rw [← (Finite.injective_iff_bijective.mp (trail_inj c d)).sum_comp fun z => A (ix3 z r n), Fin.sum_univ_four]
  rfl

theorem pay9_eq (d : Fin 2) (ch : Fin 4) (c : Dev nD) (i : Fin 256) (r : Fin 8192) (hr : r.val = offOwn c d ch 0 + i.val) (j : Fin 2048) :
    (k0_pay9 (sumUp m d ch c) (parUp m d ch c) (resUp m d ch c) (gamAt m c) : S256x2048.Idx → EReal) (ix2 i j) = normed A R G r j := by
  rw [pay9_apply _ _ _ _ (row A R r) i j fun n => row_eq hm d ch c i r hr n, gamAt_eq, hm.gamma]; rfl

theorem ownOut_eq (d : Fin 2) (ch : Fin 4) (c : Dev nD) (i : Fin 256) (r : Fin 8192) (hr : r.val = offOwn c d ch 0 + i.val) (j : Fin 2048) :
    (ownOut m d ch c : S256x2048.Idx → EReal) (ix2 i j) = normed A R G r j := by
  unfold ownOut k0_pay10
  rw [down_cast]; exact pay9_eq hm d ch c i r hr j

theorem agMsg0_eq (d : Fin 2) (ch : Fin 4) (c : Dev nD) (i : Fin 256) (r : Fin 8192) (hr : r.val = offOwn c d ch 0 + i.val) (j : Fin 2048) :
    (agMsg0 m d ch c : S256x2048.Idx → EReal) (ix2 i j) = normed A R G r j := by
  unfold agMsg0 k0_pay11
  rw [down_cast]; exact pay9_eq hm d ch c i r hr j

theorem agMsg_trail (d : Fin 2) (ch : Fin 4) (k : Fin 3) (c : Dev nD) : agMsg m d ch k (srcW c d) = agMsg0 m d ch (trail d c (3 - k.succ)) := by
  fin_cases k <;> rfl

theorem agOut_eq (d : Fin 2) (ch : Fin 4) (k : Fin 3) (c : Dev nD) (i : Fin 256) (r : Fin 8192) (hr : r.val = offAg c d ch k 0 + i.val) (j : Fin 2048) :
    (agOut m d ch k c : S256x2048.Idx → EReal) (ix2 i j) = normed A R G r j := by
  unfold agOut k0_pay17
  rw [down_cast, cast_up, agMsg_trail hm]
  exact agMsg0_eq hm d ch _ i r (by rw [← offAg_own]; exact hr) j

/-- Every block of the result holds its rows. -/
theorem outB_eq (c : Dev nD) (t : Blk) (i : Fin 256) (r : Fin 8192) (hr : r.val = offB c t 0 + i.val) (j : Fin 2048) :
    (outB m c t : S256x2048.Idx → EReal) (ix2 i j) = normed A R G r j := by
  match t with
  | (d, ch, 0) => exact ownOut_eq hm d ch c i r hr j
  | (d, ch, 1) => exact agOut_eq hm d ch 0 c i r hr j
  | (d, ch, 2) => exact agOut_eq hm d ch 1 c i r hr j
  | (d, ch, 3) => exact agOut_eq hm d ch 2 c i r hr j

/-- The result that holds every block as the run leaves it, is the normalised sum. -/
theorem out_eq (c : Dev nD) (X : S8192x2048.Idx → EReal) (hX : ∀ t j, X ((rOut c t).emb j) = outB m c t j) :
    X = fun x => normed A R G (x 0) (x 1) := by
  funext x
  obtain ⟨t, h, h'⟩ := blk_of c (x 0).val (x 0).isLt
  have e : (rOut c t).emb (ix2 (⟨(x 0).val - offB c t 0, by omega⟩ : Fin 256) (x 1 : Fin 2048) : S256x2048.Idx) = x := by
    funext a
    match a with
    | ⟨0, _⟩ => exact Fin.ext (by show offB c t 0 + 1 * ((x 0).val - offB c t 0) = (x 0).val; omega)
    | ⟨1, _⟩ => exact Fin.ext (by show offB c t 1 + 1 * (x 1).val = (x 1).val; rw [offB_col]; omega)
  rw [← congrArg X e, hX]
  exact outB_eq hm c t _ (x 0) (by show (x 0).val = offB c t 0 + ((x 0).val - offB c t 0); omega) (x 1)

end Cert.Proof

end
-- ==== Proof.RefValue.lean ====
/-
  The reference's result, element by element, over the extended reals: the same normalised sum.  Dividing by the root is
  multiplying by one over the root, since the mean square plus the small constant is above zero.
-/
module

public import proofs.«01_k».proof.Proof.Value
public import proofs.«01_k».proof.Proof.Gen.ReferenceIdeal.Run

@[expose] public section

noncomputable section

namespace Cert.Proof

open Idealize.ShloMosaic

/-- Above zero, dividing by the root is multiplying by one over the root: at the infinite value both are zero. -/
theorem div_sqrt (y a : EReal) (ha : 0 < a) : Ideal.div y (Ideal.sqrt a) = y * Ideal.rsqrt a := by
  induction a using EReal.rec with
  | bot => exact absurd ha (by simp)
  | top => simp [Ideal.div]
  | coe a =>
    have h0 : 0 < a := by exact_mod_cast ha
    have hs : Real.sqrt a ≠ 0 := (Real.sqrt_pos.mpr h0).ne'
    rw [Ideal.sqrt_coe, if_neg h0.not_gt, Ideal.div_coe hs, Ideal.rsqrt_coe, if_neg h0.not_gt, if_neg h0.ne', one_div]

theorem word_2048 : Ideal.ofBits .f32 0x45000000#32 = ((2048 : ℝ) : EReal) := by
  simp [Ideal.ofBits, Ideal.ieee, -EReal.coe_mul]; norm_num

theorem word_eps : 0 < Ideal.ofBits .f32 0x358637BD#32 := by
  simp [Ideal.ofBits, Ideal.ieee, -EReal.coe_mul]

theorem sq_nonneg' (y : EReal) : 0 ≤ y * y := by
  induction y using EReal.rec with
  | bot => simp
  | top => simp
  | coe y => exact_mod_cast mul_self_nonneg y

/-- The mean square plus the small constant is above zero. -/
theorem mean_pos (y : Fin 2048 → EReal) :
    0 < Ideal.div (∑ n, y n * y n) (Ideal.ofBits .f32 0x45000000#32) + Ideal.ofBits .f32 0x358637BD#32 := by
  have hs : 0 ≤ ∑ n, y n * y n := Finset.sum_nonneg fun n _ => sq_nonneg' (y n)
  rw [word_2048, Ideal.div_coe (by norm_num)]
  have hd : (0 : EReal) ≤ (∑ n, y n * y n) * (((1 / 2048 : ℝ) : ℝ) : EReal) := EReal.mul_nonneg hs (by norm_num)
  exact lt_of_lt_of_le word_eps (le_add_of_nonneg_left hd)

open Cert.ReferenceIdeal Cert.ReferenceIdeal.Gen in
/-- The reference's term is the normalised sum. -/
theorem ref_eq (A : FVec Ideal S4x8192x2048 .f32) (R : FVec Ideal S8192x2048 .f32) (G : FVec Ideal S2048 .f32) :
    (mulf
      (Host.divf (addf (Host.reduceAdd A (constant S_ .f32 0x00000000#32) reducesTo_S4x8192x2048_S8192x2048_d0 h_S_) R)
        (broadcastInDim S8192x2048 ![0, 1] bcast_S8192x1_S8192x2048_0_1
          (Host.sqrt (addf
            (Host.divf
              (broadcastInDim S8192x1 ![0] bcast_S8192_S8192x1_0
                (Host.reduceAdd
                  (mulf (addf (Host.reduceAdd A (constant S_ .f32 0x00000000#32) reducesTo_S4x8192x2048_S8192x2048_d0 h_S_) R)
                    (addf (Host.reduceAdd A (constant S_ .f32 0x00000000#32) reducesTo_S4x8192x2048_S8192x2048_d0 h_S_) R))
                  (constant S_ .f32 0x00000000#32) reducesTo_S8192x2048_S8192_d1 h_S_))
              (broadcastInDim S8192x1 ![] bcast_S_S8192x1 (constant S_ .f32 0x45000000#32)))
            (broadcastInDim S8192x1 ![] bcast_S_S8192x1 (constant S_ .f32 0x358637BD#32))))))
      (broadcastInDim S8192x2048 ![0, 1] bcast_S1x2048_S8192x2048_0_1 (broadcastInDim S1x2048 ![1] bcast_S2048_S1x2048_1 G)) : S8192x2048.Idx → EReal)
      = fun x => normed A R G (x 0) (x 1) := by
  funext x
  obtain ⟨r, j, rfl⟩ : ∃ (r : Fin 8192) (j : Fin 2048), x = ix2 r j := ⟨x 0, x 1, (ix2_eta x).symm⟩
  show _ = normed A R G r j
  have h := div_sqrt (row A R r j) _ (mean_pos (row A R r))
  unfold normed scale
  rw [← h]
  unfold row
  pointwise

end Cert.Proof

end
-- ==== Proof.Algebraic.lean ====
/-
  The value claim: over the extended reals every device ends with the reference's result.
-/
module

public import proofs.«01_k».proof.Defs
public import proofs.«01_k».proof.Proof.RefValue
public import proofs.«01_k».proof.Proof.Launch

@[expose] public section

noncomputable section

namespace Cert.Proof

open Idealize.ShloMosaic Idealize.SL.Sem

/-- The block that a device's coordinate on the third axis names is that slab. -/
theorem slab_apply (c : Dev Cert.KernelIdeal.nD) (A : SP.Idx → EReal) (r : Fin 8192) (n : Fin 2048) :
    Layout.blockN ⟨3, ![1, 8192, 2048]⟩ ⟨3, ![4, 8192, 2048]⟩ (Layout.meshBlock [2, 4, 4] ![[2], [], []] c) A (by decide) (ix3 (0 : Fin 1) r n) = A (ix3 (zAx c) r n) := by
  rw [Layout.blockN_apply]
  congr 1
  funext a
  refine Fin.ext ?_
  rw [Layout.TilesN.idx_val]
  match a with
  | ⟨0, _⟩ =>
    have h : ∀ c : Dev Cert.KernelIdeal.nD, Layout.meshLin [2, 4, 4] c.val [2] = c.val % 4 := by decide +kernel
    show Layout.meshLin [2, 4, 4] c.val [2] * 1 + 0 = c.val % 4
    rw [h, Nat.mul_one, Nat.add_zero]
  | ⟨1, _⟩ => simp [Layout.meshLin]
  | ⟨2, _⟩ => simp [Layout.meshLin]

theorem algebraic : Cert.algebraic_KernelIdeal_ReferenceIdeal := by
  intro m ρ m' ρ' _ hagree
  let A : SP.Idx → EReal := m' (((0 : Dev Cert.ReferenceIdeal.nD).tc : Thread Cert.ReferenceIdeal.nD Cert.ReferenceIdeal.τ).loc Cert.ReferenceIdeal.main_arg0)
  let R : Cert.KernelIdeal.S8192x2048.Idx → EReal := m' (((0 : Dev Cert.ReferenceIdeal.nD).tc : Thread Cert.ReferenceIdeal.nD Cert.ReferenceIdeal.τ).loc Cert.ReferenceIdeal.main_arg1)
  let G : Cert.KernelIdeal.S2048.Idx → EReal := m' (((0 : Dev Cert.ReferenceIdeal.nD).tc : Thread Cert.ReferenceIdeal.nD Cert.ReferenceIdeal.τ).loc Cert.ReferenceIdeal.main_arg2)
  have hm : Parts m A R G :=
    ⟨fun c r n => (congrFun (hagree c).1 (ix3 (0 : Fin 1) r n)).trans (slab_apply c _ r n), fun c => (hagree c).2.1, fun c => (hagree c).2.2⟩
  refine ⟨fun x : Cert.KernelIdeal.S8192x2048.Idx => normed A R G (x 0) (x 1), ?_, ?_⟩
  · exact (θ_run Cert.KernelIdeal.defs _ _).mono
      (fun r h c => ⟨out_eq hm c _ (h.2.1 c).1.2.2, (h.2.1 c).1.1, (h.2.1 c).1.2.1, h.1 c⟩)
      (run_main (F := Ideal) m ρ)
  · exact (θ_run Cert.ReferenceIdeal.defs _ _).mono
      (fun r h => ⟨((h 0).1).trans (ref_eq A R G), (h 0).2⟩)
      (Cert.ReferenceIdeal.Value.run (F := Ideal) m' ρ')

end Cert.Proof

end
-- ==== Proof.lean ====
module

public import proofs.«01_k».proof.Proof.Frames
public import proofs.«01_k».proof.Proof.Algebraic
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_kernelIdeal, frame_reference, trivial, algebraic⟩

end Cert.Proof

end
